-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gate_inputs_finite [hPre_gate_inputs_finite : Cert.Pre_gate_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gate_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_gate_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_gate_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.1 = (fun _ => 1#1)
    ∧ (Cert.Pre_gate_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.1 = (fun _ => 1#1)
    ∧ (Cert.Pre_gate_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.1 = (fun _ => 1#1)
    ∧ (Cert.Pre_gate_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.1 = (fun _ => 1#1)
    ∧ (Cert.Pre_gate_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.1 = (fun _ => 1#1)
    ∧ (Cert.Pre_gate_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.1 = (fun _ => 1#1)
    ∧ (Cert.Pre_gate_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.1 = (fun _ => 1#1)
    ∧ (Cert.Pre_gate_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gate_inputs_finite [hPre_gate_inputs_finite : Cert.Pre_gate_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gate_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_gate_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_gate_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.1 = (fun _ => 1#1)
    ∧ (Cert.Pre_gate_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.1 = (fun _ => 1#1)
    ∧ (Cert.Pre_gate_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.1 = (fun _ => 1#1)
    ∧ (Cert.Pre_gate_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.1 = (fun _ => 1#1)
    ∧ (Cert.Pre_gate_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.1 = (fun _ => 1#1)
    ∧ (Cert.Pre_gate_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.1 = (fun _ => 1#1)
    ∧ (Cert.Pre_gate_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.1 = (fun _ => 1#1)
    ∧ (Cert.Pre_gate_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_gate_inputs_finite [hKernelIdeal : Cert.KernelIdeal.Facts] [hPre_gate_inputs_finite : Cert.Pre_gate_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gate_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_gate_inputs_finite [hReferenceIdeal : Cert.ReferenceIdeal.Facts] [hPre_gate_inputs_finite : Cert.Pre_gate_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gate_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_gate_inputs_finite [hKernelIdeal : Cert.KernelIdeal.Facts] [hReferenceIdeal : Cert.ReferenceIdeal.Facts] [hPre_gate_inputs_finite : Cert.Pre_gate_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gate_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_gate_inputs_finite : Cert.Pre_gate_inputs_finite.Facts),
    quiescent_Kernel (hKernel := hKernel)
    ∧ quiescent_KernelIdeal (hKernelIdeal := hKernelIdeal)
    ∧ quiescent_KernelIdeal_pre_gate_inputs_finite (hKernelIdeal := hKernelIdeal) (hPre_gate_inputs_finite := hPre_gate_inputs_finite)
    ∧ quiescent_ReferenceIdeal (hReferenceIdeal := hReferenceIdeal)
    ∧ quiescent_ReferenceIdeal_pre_gate_inputs_finite (hReferenceIdeal := hReferenceIdeal) (hPre_gate_inputs_finite := hPre_gate_inputs_finite)
    ∧ preserves_Kernel_KernelIdeal
    ∧ algebraic_KernelIdeal_ReferenceIdeal_pre_gate_inputs_finite (hKernelIdeal := hKernelIdeal) (hReferenceIdeal := hReferenceIdeal) (hPre_gate_inputs_finite := hPre_gate_inputs_finite)
-- ==== Pre_gate_inputs_finite.lean ====
abbrev S4096x3x32x32 : Shape := ⟨4, ![4096, 3, 32, 32]⟩
abbrev S6x3x5x5 : Shape := ⟨4, ![6, 3, 5, 5]⟩
abbrev S6 : Shape := ⟨1, ![6]⟩
abbrev S16x6x5x5 : Shape := ⟨4, ![16, 6, 5, 5]⟩
abbrev S16 : Shape := ⟨1, ![16]⟩
abbrev S120x400 : Shape := ⟨2, ![120, 400]⟩
abbrev S120 : Shape := ⟨1, ![120]⟩
abbrev S84x120 : Shape := ⟨2, ![84, 120]⟩
abbrev S84 : Shape := ⟨1, ![84]⟩
abbrev S84x2 : Shape := ⟨2, ![84, 2]⟩
abbrev S2x84x2048 : Shape := ⟨3, ![2, 84, 2048]⟩
abbrev S2x2048 : Shape := ⟨2, ![2, 2048]⟩
abbrev S2x2048x84 : Shape := ⟨3, ![2, 2048, 84]⟩
abbrev S2x84 : Shape := ⟨2, ![2, 84]⟩
abbrev S10x84 : Shape := ⟨2, ![10, 84]⟩
abbrev S10 : Shape := ⟨1, ![10]⟩
abbrev S_ : Shape := ⟨0, ![]⟩

class Facts : Prop where
  bcast_S_S4096x3x32x32 : S_.BroadcastsInDim S4096x3x32x32 (![] : Fin 0 → Fin S4096x3x32x32.rank)
  bcast_S_S6x3x5x5 : S_.BroadcastsInDim S6x3x5x5 (![] : Fin 0 → Fin S6x3x5x5.rank)
  bcast_S_S6 : S_.BroadcastsInDim S6 (![] : Fin 0 → Fin S6.rank)
  bcast_S_S16x6x5x5 : S_.BroadcastsInDim S16x6x5x5 (![] : Fin 0 → Fin S16x6x5x5.rank)
  bcast_S_S16 : S_.BroadcastsInDim S16 (![] : Fin 0 → Fin S16.rank)
  bcast_S_S120x400 : S_.BroadcastsInDim S120x400 (![] : Fin 0 → Fin S120x400.rank)
  bcast_S_S120 : S_.BroadcastsInDim S120 (![] : Fin 0 → Fin S120.rank)
  bcast_S_S84x120 : S_.BroadcastsInDim S84x120 (![] : Fin 0 → Fin S84x120.rank)
  bcast_S_S84 : S_.BroadcastsInDim S84 (![] : Fin 0 → Fin S84.rank)
  bcast_S_S84x2 : S_.BroadcastsInDim S84x2 (![] : Fin 0 → Fin S84x2.rank)

variable [Facts]

def fn_part1 {F : FTy → Type} [FloatOps F] (main_arg6 : FVec F S120 .f32) (main_arg7 : FVec F S84x120 .f32) (main_arg8 : FVec F S84 .f32) (main_arg9 : FVec F S84x2 .f32) (main_v2 : IVec S4096x3x32x32 1) (main_v5 : IVec S6x3x5x5 1) (main_v8 : IVec S6 1) (main_v11 : IVec S16x6x5x5 1) (main_v14 : IVec S16 1) (main_v17 : IVec S120x400 1) : IVec S4096x3x32x32 1 × IVec S6x3x5x5 1 × IVec S6 1 × IVec S16x6x5x5 1 × IVec S16 1 × IVec S120x400 1 × IVec S120 1 × IVec S84x120 1 × IVec S84 1 × IVec S84x2 1 :=
  let main_v18 : FVec F S120 .f32 := Host.absf main_arg6
  let main_cst_5 : FVec F S_ .f32 := constant S_ .f32 0x7F800000#32
  let main_v19 : FVec F S120 .f32 := broadcastInDim S120 ![] bcast_S_S120 main_cst_5
  let main_v20 : IVec S120 1 := cmpf .olt main_v18 main_v19
  let main_v21 : FVec F S84x120 .f32 := Host.absf main_arg7
  let main_cst_6 : FVec F S_ .f32 := constant S_ .f32 0x7F800000#32
  let main_v22 : FVec F S84x120 .f32 := broadcastInDim S84x120 ![] bcast_S_S84x120 main_cst_6
  let main_v23 : IVec S84x120 1 := cmpf .olt main_v21 main_v22
  let main_v24 : FVec F S84 .f32 := Host.absf main_arg8
  let main_cst_7 : FVec F S_ .f32 := constant S_ .f32 0x7F800000#32
  let main_v25 : FVec F S84 .f32 := broadcastInDim S84 ![] bcast_S_S84 main_cst_7
  let main_v26 : IVec S84 1 := cmpf .olt main_v24 main_v25
  let main_v27 : FVec F S84x2 .f32 := Host.absf main_arg9
  let main_cst_8 : FVec F S_ .f32 := constant S_ .f32 0x7F800000#32
  let main_v28 : FVec F S84x2 .f32 := broadcastInDim S84x2 ![] bcast_S_S84x2 main_cst_8
  let main_v29 : IVec S84x2 1 := cmpf .olt main_v27 main_v28
  (main_v2, main_v5, main_v8, main_v11, main_v14, main_v17, main_v20, main_v23, main_v26, main_v29)

def fn {F : FTy → Type} [FloatOps F] (main_arg0 : FVec F S4096x3x32x32 .f32) (main_arg1 : FVec F S6x3x5x5 .f32) (main_arg2 : FVec F S6 .f32) (main_arg3 : FVec F S16x6x5x5 .f32) (main_arg4 : FVec F S16 .f32) (main_arg5 : FVec F S120x400 .f32) (main_arg6 : FVec F S120 .f32) (main_arg7 : FVec F S84x120 .f32) (main_arg8 : FVec F S84 .f32) (main_arg9 : FVec F S84x2 .f32) (main_arg10 : FVec F S2x84x2048 .f32) (main_arg11 : FVec F S2x2048 .f32) (main_arg12 : FVec F S2x2048x84 .f32) (main_arg13 : FVec F S2x84 .f32) (main_arg14 : FVec F S10x84 .f32) (main_arg15 : FVec F S10 .f32) : IVec S4096x3x32x32 1 × IVec S6x3x5x5 1 × IVec S6 1 × IVec S16x6x5x5 1 × IVec S16 1 × IVec S120x400 1 × IVec S120 1 × IVec S84x120 1 × IVec S84 1 × IVec S84x2 1 :=
  let main_v0 : FVec F S4096x3x32x32 .f32 := Host.absf main_arg0
  let main_cst : FVec F S_ .f32 := constant S_ .f32 0x7F800000#32
  let main_v1 : FVec F S4096x3x32x32 .f32 := broadcastInDim S4096x3x32x32 ![] bcast_S_S4096x3x32x32 main_cst
  let main_v2 : IVec S4096x3x32x32 1 := cmpf .olt main_v0 main_v1
  let main_v3 : FVec F S6x3x5x5 .f32 := Host.absf main_arg1
  let main_cst_0 : FVec F S_ .f32 := constant S_ .f32 0x7F800000#32
  let main_v4 : FVec F S6x3x5x5 .f32 := broadcastInDim S6x3x5x5 ![] bcast_S_S6x3x5x5 main_cst_0
  let main_v5 : IVec S6x3x5x5 1 := cmpf .olt main_v3 main_v4
  let main_v6 : FVec F S6 .f32 := Host.absf main_arg2
  let main_cst_1 : FVec F S_ .f32 := constant S_ .f32 0x7F800000#32
  let main_v7 : FVec F S6 .f32 := broadcastInDim S6 ![] bcast_S_S6 main_cst_1
  let main_v8 : IVec S6 1 := cmpf .olt main_v6 main_v7
  let main_v9 : FVec F S16x6x5x5 .f32 := Host.absf main_arg3
  let main_cst_2 : FVec F S_ .f32 := constant S_ .f32 0x7F800000#32
  let main_v10 : FVec F S16x6x5x5 .f32 := broadcastInDim S16x6x5x5 ![] bcast_S_S16x6x5x5 main_cst_2
  let main_v11 : IVec S16x6x5x5 1 := cmpf .olt main_v9 main_v10
  let main_v12 : FVec F S16 .f32 := Host.absf main_arg4
  let main_cst_3 : FVec F S_ .f32 := constant S_ .f32 0x7F800000#32
  let main_v13 : FVec F S16 .f32 := broadcastInDim S16 ![] bcast_S_S16 main_cst_3
  let main_v14 : IVec S16 1 := cmpf .olt main_v12 main_v13
  let main_v15 : FVec F S120x400 .f32 := Host.absf main_arg5
  let main_cst_4 : FVec F S_ .f32 := constant S_ .f32 0x7F800000#32
  let main_v16 : FVec F S120x400 .f32 := broadcastInDim S120x400 ![] bcast_S_S120x400 main_cst_4
  let main_v17 : IVec S120x400 1 := cmpf .olt main_v15 main_v16
  fn_part1 (F := F) main_arg6 main_arg7 main_arg8 main_arg9 main_v2 main_v5 main_v8 main_v11 main_v14 main_v17
-- ==== Kernel.lean ====
abbrev S4096x3x32x32 : Shape := ⟨4, ![4096, 3, 32, 32]⟩
abbrev S6x3x5x5 : Shape := ⟨4, ![6, 3, 5, 5]⟩
abbrev S6 : Shape := ⟨1, ![6]⟩
abbrev S16x6x5x5 : Shape := ⟨4, ![16, 6, 5, 5]⟩
abbrev S16 : Shape := ⟨1, ![16]⟩
abbrev S120x400 : Shape := ⟨2, ![120, 400]⟩
abbrev S120 : Shape := ⟨1, ![120]⟩
abbrev S84x120 : Shape := ⟨2, ![84, 120]⟩
abbrev S84 : Shape := ⟨1, ![84]⟩
abbrev S84x2 : Shape := ⟨2, ![84, 2]⟩
abbrev S2x84x2048 : Shape := ⟨3, ![2, 84, 2048]⟩
abbrev S2x2048 : Shape := ⟨2, ![2, 2048]⟩
abbrev S2x2048x84 : Shape := ⟨3, ![2, 2048, 84]⟩
abbrev S2x84 : Shape := ⟨2, ![2, 84]⟩
abbrev S10x84 : Shape := ⟨2, ![10, 84]⟩
abbrev S10 : Shape := ⟨1, ![10]⟩
abbrev S14x2x32x5 : Shape := ⟨4, ![14, 2, 32, 5]⟩
abbrev S5x2x14x5 : Shape := ⟨4, ![5, 2, 14, 5]⟩
abbrev S3x32x32x4096 : Shape := ⟨4, ![3, 32, 32, 4096]⟩
abbrev S3072x4096 : Shape := ⟨2, ![3072, 4096]⟩
abbrev S14x2x32x6x3x5 : Shape := ⟨6, ![14, 2, 32, 6, 3, 5]⟩
abbrev S2x6x14x3x5x32 : Shape := ⟨6, ![2, 6, 14, 3, 5, 32]⟩
abbrev S2x84x480 : Shape := ⟨3, ![2, 84, 480]⟩
abbrev S_ : Shape := ⟨0, ![]⟩
abbrev S2x96x480 : Shape := ⟨3, ![2, 96, 480]⟩
abbrev S192x480 : Shape := ⟨2, ![192, 480]⟩
abbrev S5x2x14x16x6x5 : Shape := ⟨6, ![5, 2, 14, 16, 6, 5]⟩
abbrev S2x16x5x5x6x14 : Shape := ⟨6, ![2, 16, 5, 5, 6, 14]⟩
abbrev S2x80x5x84 : Shape := ⟨4, ![2, 80, 5, 84]⟩
abbrev S2x80x5x96 : Shape := ⟨4, ![2, 80, 5, 96]⟩
abbrev S160x480 : Shape := ⟨2, ![160, 480]⟩
abbrev S6x14 : Shape := ⟨2, ![6, 14]⟩
abbrev S96 : Shape := ⟨1, ![96]⟩
abbrev S96x1 : Shape := ⟨2, ![96, 1]⟩
abbrev S16x5 : Shape := ⟨2, ![16, 5]⟩
abbrev S80 : Shape := ⟨1, ![80]⟩
abbrev S80x1 : Shape := ⟨2, ![80, 1]⟩
abbrev S120x16x5x5 : Shape := ⟨4, ![120, 16, 5, 5]⟩
abbrev S120x5x16x5 : Shape := ⟨4, ![120, 5, 16, 5]⟩
abbrev S4096x84 : Shape := ⟨2, ![4096, 84]⟩
abbrev S4096x1 : Shape := ⟨2, ![4096, 1]⟩
abbrev S84x2x2048 : Shape := ⟨3, ![84, 2, 2048]⟩
abbrev S84x4096 : Shape := ⟨2, ![84, 4096]⟩
abbrev S120x1 : Shape := ⟨2, ![120, 1]⟩
abbrev S84x1 : Shape := ⟨2, ![84, 1]⟩
abbrev S10x1 : Shape := ⟨2, ![10, 1]⟩
abbrev S10x4096 : Shape := ⟨2, ![10, 4096]⟩
abbrev S3072x256 : Shape := ⟨2, ![3072, 256]⟩
abbrev S10x256 : Shape := ⟨2, ![10, 256]⟩
abbrev S32x256 : Shape := ⟨2, ![32, 256]⟩
abbrev S480x256 : Shape := ⟨2, ![480, 256]⟩
abbrev S192x256 : Shape := ⟨2, ![192, 256]⟩
abbrev S96x256 : Shape := ⟨2, ![96, 256]⟩
abbrev S160x256 : Shape := ⟨2, ![160, 256]⟩
abbrev S80x256 : Shape := ⟨2, ![80, 256]⟩
abbrev S400x256 : Shape := ⟨2, ![400, 256]⟩
abbrev S120x256 : Shape := ⟨2, ![120, 256]⟩
abbrev S84x256 : Shape := ⟨2, ![84, 256]⟩
abbrev S2x256 : Shape := ⟨2, ![2, 256]⟩
abbrev S256 : Shape := ⟨1, ![256]⟩
abbrev S1x256 : Shape := ⟨2, ![1, 256]⟩
abbrev S4096x256 : Shape := ⟨2, ![4096, 256]⟩
abbrev S4096x10 : Shape := ⟨2, ![4096, 10]⟩

abbrev nBuf : Space → Nat
  | .hbm => 71
  | .vmem => 19
  | .smem => 0
  | _ => 0

abbrev bufTy : (tb : Table) → Fin (tcTables nBuf tb) → BufTy
  | .hbm, ⟨0, _⟩ => ⟨S4096x3x32x32, .f32⟩
  | .hbm, ⟨1, _⟩ => ⟨S6x3x5x5, .f32⟩
  | .hbm, ⟨2, _⟩ => ⟨S6, .f32⟩
  | .hbm, ⟨3, _⟩ => ⟨S16x6x5x5, .f32⟩
  | .hbm, ⟨4, _⟩ => ⟨S16, .f32⟩
  | .hbm, ⟨5, _⟩ => ⟨S120x400, .f32⟩
  | .hbm, ⟨6, _⟩ => ⟨S120, .f32⟩
  | .hbm, ⟨7, _⟩ => ⟨S84x120, .f32⟩
  | .hbm, ⟨8, _⟩ => ⟨S84, .f32⟩
  | .hbm, ⟨9, _⟩ => ⟨S84x2, .f32⟩
  | .hbm, ⟨10, _⟩ => ⟨S2x84x2048, .f32⟩
  | .hbm, ⟨11, _⟩ => ⟨S2x2048, .f32⟩
  | .hbm, ⟨12, _⟩ => ⟨S2x2048x84, .f32⟩
  | .hbm, ⟨13, _⟩ => ⟨S2x84, .f32⟩
  | .hbm, ⟨14, _⟩ => ⟨S10x84, .f32⟩
  | .hbm, ⟨15, _⟩ => ⟨S10, .f32⟩
  | .hbm, ⟨16, _⟩ => ⟨S14x2x32x5, .f32⟩
  | .hbm, ⟨17, _⟩ => ⟨S5x2x14x5, .f32⟩
  | .hbm, ⟨18, _⟩ => ⟨S3x32x32x4096, .f32⟩
  | .hbm, ⟨19, _⟩ => ⟨S3072x4096, .f32⟩
  | .hbm, ⟨20, _⟩ => ⟨S14x2x32x6x3x5, .f32⟩
  | .hbm, ⟨21, _⟩ => ⟨S2x6x14x3x5x32, .f32⟩
  | .hbm, ⟨22, _⟩ => ⟨S2x84x480, .f32⟩
  | .hbm, ⟨23, _⟩ => ⟨S_, .i32⟩
  | .hbm, ⟨24, _⟩ => ⟨S_, .f32⟩
  | .hbm, ⟨25, _⟩ => ⟨S2x96x480, .f32⟩
  | .hbm, ⟨26, _⟩ => ⟨S192x480, .f32⟩
  | .hbm, ⟨27, _⟩ => ⟨S192x480, .bf16⟩
  | .hbm, ⟨28, _⟩ => ⟨S5x2x14x16x6x5, .f32⟩
  | .hbm, ⟨29, _⟩ => ⟨S2x16x5x5x6x14, .f32⟩
  | .hbm, ⟨30, _⟩ => ⟨S2x80x5x84, .f32⟩
  | .hbm, ⟨31, _⟩ => ⟨S_, .i32⟩
  | .hbm, ⟨32, _⟩ => ⟨S_, .f32⟩
  | .hbm, ⟨33, _⟩ => ⟨S2x80x5x96, .f32⟩
  | .hbm, ⟨34, _⟩ => ⟨S160x480, .f32⟩
  | .hbm, ⟨35, _⟩ => ⟨S160x480, .bf16⟩
  | .hbm, ⟨36, _⟩ => ⟨S6x14, .f32⟩
  | .hbm, ⟨37, _⟩ => ⟨S84, .f32⟩
  | .hbm, ⟨38, _⟩ => ⟨S_, .i32⟩
  | .hbm, ⟨39, _⟩ => ⟨S_, .f32⟩
  | .hbm, ⟨40, _⟩ => ⟨S96, .f32⟩
  | .hbm, ⟨41, _⟩ => ⟨S96x1, .f32⟩
  | .hbm, ⟨42, _⟩ => ⟨S16x5, .f32⟩
  | .hbm, ⟨43, _⟩ => ⟨S80, .f32⟩
  | .hbm, ⟨44, _⟩ => ⟨S80x1, .f32⟩
  | .hbm, ⟨45, _⟩ => ⟨S120x16x5x5, .f32⟩
  | .hbm, ⟨46, _⟩ => ⟨S120x5x16x5, .f32⟩
  | .hbm, ⟨47, _⟩ => ⟨S120x400, .f32⟩
  | .hbm, ⟨48, _⟩ => ⟨S120x400, .bf16⟩
  | .hbm, ⟨49, _⟩ => ⟨S2x2048x84, .f32⟩
  | .hbm, ⟨50, _⟩ => ⟨S4096x84, .f32⟩
  | .hbm, ⟨51, _⟩ => ⟨S4096x84, .bf16⟩
  | .hbm, ⟨52, _⟩ => ⟨S4096x1, .f32⟩
  | .hbm, ⟨53, _⟩ => ⟨S84x2x2048, .f32⟩
  | .hbm, ⟨54, _⟩ => ⟨S84x4096, .f32⟩
  | .hbm, ⟨55, _⟩ => ⟨S84x4096, .bf16⟩
  | .hbm, ⟨56, _⟩ => ⟨S84x2, .f32⟩
  | .hbm, ⟨57, _⟩ => ⟨S120x1, .f32⟩
  | .hbm, ⟨58, _⟩ => ⟨S84x120, .bf16⟩
  | .hbm, ⟨59, _⟩ => ⟨S84x1, .f32⟩
  | .hbm, ⟨60, _⟩ => ⟨S2x84, .f32⟩
  | .hbm, ⟨61, _⟩ => ⟨S2x84, .bf16⟩
  | .hbm, ⟨62, _⟩ => ⟨S10x1, .f32⟩
  | .hbm, ⟨63, _⟩ => ⟨S120x1, .f32⟩
  | .hbm, ⟨64, _⟩ => ⟨S84x120, .bf16⟩
  | .hbm, ⟨65, _⟩ => ⟨S84x1, .f32⟩
  | .hbm, ⟨66, _⟩ => ⟨S2x84, .f32⟩
  | .hbm, ⟨67, _⟩ => ⟨S2x84, .bf16⟩
  | .hbm, ⟨68, _⟩ => ⟨S10x1, .f32⟩
  | .hbm, ⟨69, _⟩ => ⟨S10x4096, .f32⟩
  | .hbm, ⟨70, _⟩ => ⟨S4096x10, .f32⟩
  | .local _ .vmem, ⟨0, _⟩ => ⟨S3072x256, .f32⟩
  | .local _ .vmem, ⟨1, _⟩ => ⟨S3072x256, .f32⟩
  | .local _ .vmem, ⟨2, _⟩ => ⟨S192x480, .bf16⟩
  | .local _ .vmem, ⟨3, _⟩ => ⟨S96x1, .f32⟩
  | .local _ .vmem, ⟨4, _⟩ => ⟨S160x480, .bf16⟩
  | .local _ .vmem, ⟨5, _⟩ => ⟨S80x1, .f32⟩
  | .local _ .vmem, ⟨6, _⟩ => ⟨S120x400, .bf16⟩
  | .local _ .vmem, ⟨7, _⟩ => ⟨S120x1, .f32⟩
  | .local _ .vmem, ⟨8, _⟩ => ⟨S84x120, .bf16⟩
  | .local _ .vmem, ⟨9, _⟩ => ⟨S84x1, .f32⟩
  | .local _ .vmem, ⟨10, _⟩ => ⟨S2x84, .bf16⟩
  | .local _ .vmem, ⟨11, _⟩ => ⟨S4096x84, .bf16⟩
  | .local _ .vmem, ⟨12, _⟩ => ⟨S4096x1, .f32⟩
  | .local _ .vmem, ⟨13, _⟩ => ⟨S84x4096, .bf16⟩
  | .local _ .vmem, ⟨14, _⟩ => ⟨S84x2, .f32⟩
  | .local _ .vmem, ⟨15, _⟩ => ⟨S10x84, .f32⟩
  | .local _ .vmem, ⟨16, _⟩ => ⟨S10x1, .f32⟩
  | .local _ .vmem, ⟨17, _⟩ => ⟨S10x256, .f32⟩
  | .local _ .vmem, ⟨18, _⟩ => ⟨S10x256, .f32⟩
  | _, _ => ⟨S4096x3x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_cst_0 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c : Ref sig .tc := ⟨.hbm, 23, rfl⟩
abbrev main_call0_v0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_1 : Ref sig .tc := ⟨.hbm, 31, rfl⟩
abbrev main_call1_v0 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c_2 : Ref sig .tc := ⟨.hbm, 38, rfl⟩
abbrev main_call2_v0 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3072x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x480 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S96x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S160x480 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S80x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S120x400 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S120x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S84x120 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S84x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x84 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4096x84 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4096x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S84x4096 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S84x2 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S10x84 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S10x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S10x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S4096x3x32x32 : Shape := ⟨4, ![4096, 3, 32, 32]⟩
abbrev S6x3x5x5 : Shape := ⟨4, ![6, 3, 5, 5]⟩
abbrev S6 : Shape := ⟨1, ![6]⟩
abbrev S16x6x5x5 : Shape := ⟨4, ![16, 6, 5, 5]⟩
abbrev S16 : Shape := ⟨1, ![16]⟩
abbrev S120x400 : Shape := ⟨2, ![120, 400]⟩
abbrev S120 : Shape := ⟨1, ![120]⟩
abbrev S84x120 : Shape := ⟨2, ![84, 120]⟩
abbrev S84 : Shape := ⟨1, ![84]⟩
abbrev S84x2 : Shape := ⟨2, ![84, 2]⟩
abbrev S2x84x2048 : Shape := ⟨3, ![2, 84, 2048]⟩
abbrev S2x2048 : Shape := ⟨2, ![2, 2048]⟩
abbrev S2x2048x84 : Shape := ⟨3, ![2, 2048, 84]⟩
abbrev S2x84 : Shape := ⟨2, ![2, 84]⟩
abbrev S10x84 : Shape := ⟨2, ![10, 84]⟩
abbrev S10 : Shape := ⟨1, ![10]⟩
abbrev S4096x3x28x32 : Shape := ⟨4, ![4096, 3, 28, 32]⟩
abbrev S4096x3x1x28x32 : Shape := ⟨5, ![4096, 3, 1, 28, 32]⟩
abbrev S4096x3x5x28x32 : Shape := ⟨5, ![4096, 3, 5, 28, 32]⟩
abbrev S4096x3x5x28x28 : Shape := ⟨5, ![4096, 3, 5, 28, 28]⟩
abbrev S4096x3x5x1x28x28 : Shape := ⟨6, ![4096, 3, 5, 1, 28, 28]⟩
abbrev S4096x3x5x5x28x28 : Shape := ⟨6, ![4096, 3, 5, 5, 28, 28]⟩
abbrev S6x4096x28x28 : Shape := ⟨4, ![6, 4096, 28, 28]⟩
abbrev S4096x6x28x28 : Shape := ⟨4, ![4096, 6, 28, 28]⟩
abbrev S1x6x1x1 : Shape := ⟨4, ![1, 6, 1, 1]⟩
abbrev S_ : Shape := ⟨0, ![]⟩
abbrev S4096x6x14x14 : Shape := ⟨4, ![4096, 6, 14, 14]⟩
abbrev S4096x6x10x14 : Shape := ⟨4, ![4096, 6, 10, 14]⟩
abbrev S4096x6x1x10x14 : Shape := ⟨5, ![4096, 6, 1, 10, 14]⟩
abbrev S4096x6x5x10x14 : Shape := ⟨5, ![4096, 6, 5, 10, 14]⟩
abbrev S4096x6x5x10x10 : Shape := ⟨5, ![4096, 6, 5, 10, 10]⟩
abbrev S4096x6x5x1x10x10 : Shape := ⟨6, ![4096, 6, 5, 1, 10, 10]⟩
abbrev S4096x6x5x5x10x10 : Shape := ⟨6, ![4096, 6, 5, 5, 10, 10]⟩
abbrev S16x4096x10x10 : Shape := ⟨4, ![16, 4096, 10, 10]⟩
abbrev S4096x16x10x10 : Shape := ⟨4, ![4096, 16, 10, 10]⟩
abbrev S1x16x1x1 : Shape := ⟨4, ![1, 16, 1, 1]⟩
abbrev S4096x16x5x5 : Shape := ⟨4, ![4096, 16, 5, 5]⟩
abbrev S4096x400 : Shape := ⟨2, ![4096, 400]⟩
abbrev S400x120 : Shape := ⟨2, ![400, 120]⟩
abbrev S4096x120 : Shape := ⟨2, ![4096, 120]⟩
abbrev S1x120 : Shape := ⟨2, ![1, 120]⟩
abbrev S120x84 : Shape := ⟨2, ![120, 84]⟩
abbrev S4096x84 : Shape := ⟨2, ![4096, 84]⟩
abbrev S1x84 : Shape := ⟨2, ![1, 84]⟩
abbrev S4096x2 : Shape := ⟨2, ![4096, 2]⟩
abbrev S4096 : Shape := ⟨1, ![4096]⟩
abbrev S4096x1 : Shape := ⟨2, ![4096, 1]⟩
abbrev S4096x2x1 : Shape := ⟨3, ![4096, 2, 1]⟩
abbrev S1x1x2 : Shape := ⟨3, ![1, 1, 2]⟩
abbrev S4096x2x2 : Shape := ⟨3, ![4096, 2, 2]⟩
abbrev S4096x2x2048 : Shape := ⟨3, ![4096, 2, 2048]⟩
abbrev S1x2x2048 : Shape := ⟨3, ![1, 2, 2048]⟩
abbrev S2x84x4096 : Shape := ⟨3, ![2, 84, 4096]⟩
abbrev S4096x2x84 : Shape := ⟨3, ![4096, 2, 84]⟩
abbrev S1x2x84 : Shape := ⟨3, ![1, 2, 84]⟩
abbrev S84x10 : Shape := ⟨2, ![84, 10]⟩
abbrev S4096x10 : Shape := ⟨2, ![4096, 10]⟩
abbrev S1x10 : Shape := ⟨2, ![1, 10]⟩

abbrev nBuf : Space → Nat
  | .hbm => 146
  | .vmem => 0
  | .smem => 0
  | _ => 0

abbrev hbmTy0_0 (i : Nat) : BufTy := match i % 128 with
  | 0 => ⟨S4096x3x32x32, .f32⟩
  | 1 => ⟨S6x3x5x5, .f32⟩
  | 2 => ⟨S6, .f32⟩
  | 3 => ⟨S16x6x5x5, .f32⟩
  | 4 => ⟨S16, .f32⟩
  | 5 => ⟨S120x400, .f32⟩
  | 6 => ⟨S120, .f32⟩
  | 7 => ⟨S84x120, .f32⟩
  | 8 => ⟨S84, .f32⟩
  | 9 => ⟨S84x2, .f32⟩
  | 10 => ⟨S2x84x2048, .f32⟩
  | 11 => ⟨S2x2048, .f32⟩
  | 12 => ⟨S2x2048x84, .f32⟩
  | 13 => ⟨S2x84, .f32⟩
  | 14 => ⟨S10x84, .f32⟩
  | 15 => ⟨S10, .f32⟩
  | 16 => ⟨S4096x3x28x32, .f32⟩
  | 17 => ⟨S4096x3x28x32, .f32⟩
  | 18 => ⟨S4096x3x28x32, .f32⟩
  | 19 => ⟨S4096x3x28x32, .f32⟩
  | 20 => ⟨S4096x3x28x32, .f32⟩
  | 21 => ⟨S4096x3x1x28x32, .f32⟩
  | 22 => ⟨S4096x3x1x28x32, .f32⟩
  | 23 => ⟨S4096x3x1x28x32, .f32⟩
  | 24 => ⟨S4096x3x1x28x32, .f32⟩
  | 25 => ⟨S4096x3x1x28x32, .f32⟩
  | 26 => ⟨S4096x3x5x28x32, .f32⟩
  | 27 => ⟨S4096x3x5x28x28, .f32⟩
  | 28 => ⟨S4096x3x5x28x28, .f32⟩
  | 29 => ⟨S4096x3x5x28x28, .f32⟩
  | 30 => ⟨S4096x3x5x28x28, .f32⟩
  | 31 => ⟨S4096x3x5x28x28, .f32⟩
  | 32 => ⟨S4096x3x5x1x28x28, .f32⟩
  | 33 => ⟨S4096x3x5x1x28x28, .f32⟩
  | 34 => ⟨S4096x3x5x1x28x28, .f32⟩
  | 35 => ⟨S4096x3x5x1x28x28, .f32⟩
  | 36 => ⟨S4096x3x5x1x28x28, .f32⟩
  | 37 => ⟨S4096x3x5x5x28x28, .f32⟩
  | 38 => ⟨S6x4096x28x28, .f32⟩
  | 39 => ⟨S4096x6x28x28, .f32⟩
  | 40 => ⟨S1x6x1x1, .f32⟩
  | 41 => ⟨S4096x6x28x28, .f32⟩
  | 42 => ⟨S4096x6x28x28, .f32⟩
  | 43 => ⟨S_, .f32⟩
  | 44 => ⟨S4096x6x28x28, .f32⟩
  | 45 => ⟨S4096x6x28x28, .f32⟩
  | 46 => ⟨S_, .f32⟩
  | 47 => ⟨S_, .f32⟩
  | 48 => ⟨S4096x6x14x14, .f32⟩
  | 49 => ⟨S4096x6x10x14, .f32⟩
  | 50 => ⟨S4096x6x10x14, .f32⟩
  | 51 => ⟨S4096x6x10x14, .f32⟩
  | 52 => ⟨S4096x6x10x14, .f32⟩
  | 53 => ⟨S4096x6x10x14, .f32⟩
  | 54 => ⟨S4096x6x1x10x14, .f32⟩
  | 55 => ⟨S4096x6x1x10x14, .f32⟩
  | 56 => ⟨S4096x6x1x10x14, .f32⟩
  | 57 => ⟨S4096x6x1x10x14, .f32⟩
  | 58 => ⟨S4096x6x1x10x14, .f32⟩
  | 59 => ⟨S4096x6x5x10x14, .f32⟩
  | 60 => ⟨S4096x6x5x10x10, .f32⟩
  | 61 => ⟨S4096x6x5x10x10, .f32⟩
  | 62 => ⟨S4096x6x5x10x10, .f32⟩
  | 63 => ⟨S4096x6x5x10x10, .f32⟩
  | 64 => ⟨S4096x6x5x10x10, .f32⟩
  | 65 => ⟨S4096x6x5x1x10x10, .f32⟩
  | 66 => ⟨S4096x6x5x1x10x10, .f32⟩
  | 67 => ⟨S4096x6x5x1x10x10, .f32⟩
  | 68 => ⟨S4096x6x5x1x10x10, .f32⟩
  | 69 => ⟨S4096x6x5x1x10x10, .f32⟩
  | 70 => ⟨S4096x6x5x5x10x10, .f32⟩
  | 71 => ⟨S16x4096x10x10, .f32⟩
  | 72 => ⟨S4096x16x10x10, .f32⟩
  | 73 => ⟨S1x16x1x1, .f32⟩
  | 74 => ⟨S4096x16x10x10, .f32⟩
  | 75 => ⟨S4096x16x10x10, .f32⟩
  | 76 => ⟨S_, .f32⟩
  | 77 => ⟨S4096x16x10x10, .f32⟩
  | 78 => ⟨S4096x16x10x10, .f32⟩
  | 79 => ⟨S_, .f32⟩
  | 80 => ⟨S_, .f32⟩
  | 81 => ⟨S4096x16x5x5, .f32⟩
  | 82 => ⟨S4096x400, .f32⟩
  | 83 => ⟨S400x120, .f32⟩
  | 84 => ⟨S4096x120, .f32⟩
  | 85 => ⟨S1x120, .f32⟩
  | 86 => ⟨S4096x120, .f32⟩
  | 87 => ⟨S4096x120, .f32⟩
  | 88 => ⟨S_, .f32⟩
  | 89 => ⟨S4096x120, .f32⟩
  | 90 => ⟨S4096x120, .f32⟩
  | 91 => ⟨S120x84, .f32⟩
  | 92 => ⟨S4096x84, .f32⟩
  | 93 => ⟨S1x84, .f32⟩
  | 94 => ⟨S4096x84, .f32⟩
  | 95 => ⟨S4096x84, .f32⟩
  | 96 => ⟨S_, .f32⟩
  | 97 => ⟨S4096x84, .f32⟩
  | 98 => ⟨S4096x84, .f32⟩
  | 99 => ⟨S4096x2, .f32⟩
  | 100 => ⟨S_, .f32⟩
  | 101 => ⟨S4096, .f32⟩
  | 102 => ⟨S_, .f32⟩
  | 103 => ⟨S4096, .f32⟩
  | 104 => ⟨S4096, .f32⟩
  | 105 => ⟨S4096x1, .f32⟩
  | 106 => ⟨S4096x2, .f32⟩
  | 107 => ⟨S4096x2, .f32⟩
  | 108 => ⟨S4096x2, .f32⟩
  | 109 => ⟨S_, .f32⟩
  | 110 => ⟨S4096, .f32⟩
  | 111 => ⟨S4096x1, .f32⟩
  | 112 => ⟨S4096x2, .f32⟩
  | 113 => ⟨S4096x2, .f32⟩
  | 114 => ⟨S4096x2, .f32⟩
  | 115 => ⟨S4096x2, .i32⟩
  | 116 => ⟨S_, .f32⟩
  | 117 => ⟨S4096, .f32⟩
  | 118 => ⟨S4096x1, .f32⟩
  | 119 => ⟨S4096x2, .f32⟩
  | 120 => ⟨S4096x2, .f32⟩
  | 121 => ⟨S4096x2x1, .i32⟩
  | 122 => ⟨S1x1x2, .i32⟩
  | 123 => ⟨S4096x2x2, .i32⟩
  | 124 => ⟨S4096x2x2, .i32⟩
  | 125 => ⟨S4096x2x2, .i1⟩
  | 126 => ⟨S4096x2x2, .f32⟩
  | 127 => ⟨S4096x2, .f32⟩
  | _ => ⟨S4096x3x32x32, .f32⟩

abbrev hbmTy0_1 (i : Nat) : BufTy := match i % 128 with
  | 0 => ⟨S4096x2x2048, .f32⟩
  | 1 => ⟨S1x2x2048, .f32⟩
  | 2 => ⟨S4096x2x2048, .f32⟩
  | 3 => ⟨S4096x2x2048, .f32⟩
  | 4 => ⟨S_, .f32⟩
  | 5 => ⟨S4096x2x2048, .f32⟩
  | 6 => ⟨S4096x2x2048, .f32⟩
  | 7 => ⟨S2x84x4096, .f32⟩
  | 8 => ⟨S4096x2x84, .f32⟩
  | 9 => ⟨S1x2x84, .f32⟩
  | 10 => ⟨S4096x2x84, .f32⟩
  | 11 => ⟨S4096x2x84, .f32⟩
  | 12 => ⟨S4096x84, .f32⟩
  | 13 => ⟨S84x10, .f32⟩
  | 14 => ⟨S4096x10, .f32⟩
  | 15 => ⟨S1x10, .f32⟩
  | 16 => ⟨S4096x10, .f32⟩
  | 17 => ⟨S4096x10, .f32⟩
  | _ => ⟨S4096x3x32x32, .f32⟩

abbrev hbmTy (i : Nat) : BufTy := match i / 128 with
  | 0 => hbmTy0_0 i
  | 1 => hbmTy0_1 i
  | _ => ⟨S4096x3x32x32, .f32⟩

abbrev bufTy : (tb : Table) → Fin (tcTables nBuf tb) → BufTy
  | .hbm, ⟨i, _⟩ => hbmTy i
  | _, _ => ⟨S4096x3x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call0_cst : Ref sig .tc := ⟨.hbm, 43, rfl⟩
abbrev main_call0_v0 : Ref sig .tc := ⟨.hbm, 44, rfl⟩
abbrev main_v27 : Ref sig .tc := ⟨.hbm, 45, rfl⟩
abbrev main_cst : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_call1_cst : Ref sig .tc := ⟨.hbm, 76, rfl⟩
abbrev main_call1_v0 : Ref sig .tc := ⟨.hbm, 77, rfl⟩
abbrev main_v57 : Ref sig .tc := ⟨.hbm, 78, rfl⟩
abbrev main_cst_0 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_call2_cst : Ref sig .tc := ⟨.hbm, 88, rfl⟩
abbrev main_call2_v0 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_call3_cst : Ref sig .tc := ⟨.hbm, 96, rfl⟩
abbrev main_call3_v0 : Ref sig .tc := ⟨.hbm, 97, rfl⟩
abbrev main_v72 : Ref sig .tc := ⟨.hbm, 98, rfl⟩
abbrev main_v73 : Ref sig .tc := ⟨.hbm, 99, rfl⟩
abbrev main_cst_1 : Ref sig .tc := ⟨.hbm, 100, rfl⟩
abbrev main_v74 : Ref sig .tc := ⟨.hbm, 101, rfl⟩
abbrev main_cst_2 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_3 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_values : Ref sig .tc := ⟨.hbm, 114, rfl⟩
abbrev main_indices : Ref sig .tc := ⟨.hbm, 115, rfl⟩
abbrev main_cst_4 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_call4_v0 : Ref sig .tc := ⟨.hbm, 121, rfl⟩
abbrev main_call4_v1 : Ref sig .tc := ⟨.hbm, 122, rfl⟩
abbrev main_call4_v2 : Ref sig .tc := ⟨.hbm, 123, rfl⟩
abbrev main_call4_v3 : Ref sig .tc := ⟨.hbm, 124, rfl⟩
abbrev main_call4_v4 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_call5_cst : Ref sig .tc := ⟨.hbm, 132, rfl⟩
abbrev main_call5_v0 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩

abbrev nD : Nat := 1
abbrev τ : Topo := Topo.v7x

variable {F : FTy → Type} [FloatOps F]
-- ==== Proof.KernelRows.lean ====
/- The kernel's body written over its own repeated steps: one pooled row of either convolution is one definition at a row
   number, and each printed row is that definition. -/
module

public import proofs.«01_k».proof.Proof.Gen.KernelIdeal.Frame
public import Idealize.ShloMosaic.PureOps.Ideal.Laws

@[expose] public section

noncomputable section

namespace Cert.Val

open Cert.KernelIdeal Cert.KernelIdeal.Gen
open Idealize.ShloMosaic

/-- The maximum over the two products and over the two halves of their rows, plus the bias, rectified. -/
def pooled {M P : ℕ} (h0 : (⟨2, ![M, 256]⟩ : Shape).Slices ![0, 0] ⟨2, ![P, 256]⟩)
    (h1 : (⟨2, ![M, 256]⟩ : Shape).Slices ![P, 0] ⟨2, ![P, 256]⟩)
    (hc : (⟨2, ![P, 1]⟩ : Shape).ShapeCasts ⟨2, ![P, 1]⟩) (hb : (⟨2, ![P, 1]⟩ : Shape).Broadcasts ⟨2, ![P, 256]⟩)
    (u v : FVec Ideal ⟨2, ![M, 256]⟩ .f32) (b : FVec Ideal ⟨2, ![P, 1]⟩ .f32) : FVec Ideal ⟨2, ![P, 256]⟩ .bf16 :=
  truncf .bf16 (maximumf
    (addf (maximumf (extractStridedSlice ⟨2, ![P, 256]⟩ ![0, 0] (maximumf u v) h0)
        (extractStridedSlice ⟨2, ![P, 256]⟩ ![P, 0] (maximumf u v) h1))
      (broadcastTo ⟨2, ![P, 256]⟩ (shapeCast ⟨2, ![P, 1]⟩ b hc) hb))
    (broadcast ⟨2, ![P, 256]⟩ (Scalar.ofBits .f32 0x00000000#32))) bitsLt_bf16_f32

/-- Where the `k`-th piece of the window at row `i` starts in the stacked image: channel `k / 5`, row `i + k % 5`. -/
abbrev start (i : ℕ) (k : Fin 15) : ℕ := k.val / 5 * 1024 + (i + k.val % 5) * 32

theorem start_slices {i : ℕ} (hi : i < 28) (k : Fin 15) : S3072x256.Slices ![start i k, 0] S32x256 :=
  ⟨rfl, fun a => match a with
    | ⟨0, _⟩ => by show start i k + 32 ≤ 3072; have := k.isLt; unfold start; omega
    | ⟨1, _⟩ => Nat.le_refl 256⟩

/-- The window of five image rows from row `i` of each channel, stacked. -/
def slab (x : FVec Ideal S3072x256 .bf16) (i : ℕ) (hi : i < 28) : FVec Ideal S480x256 .bf16 :=
  concatenate S480x256 0
    (List.ofFn fun k : Fin 15 => (⟨S32x256, extractStridedSlice S32x256 ![start i k, 0] x (start_slices hi k)⟩ : (s : Shape) × (s.Idx → Ideal .bf16)))
    concatenates_S32x256_S32x256_S32x256_S32x256_S32x256_S32x256_S32x256_S32x256_S32x256_S32x256_S32x256_S32x256_S32x256_S32x256_S32x256_S480x256_d0

/-- The first convolution at image row `i`: both horizontal parities, every output channel. -/
def prod1 (x : FVec Ideal S3072x256 .bf16) (w : FVec Ideal S192x480 .bf16) (i : ℕ) (hi : i < 28) : FVec Ideal S192x256 .f32 :=
  matmul dot_S192x480_S480x256_S192x256_1_0_0_1_n_n none w (slab x i hi) (constant S192x256 .f32 0x00000000#32)

/-- The first layer's output row `j`. -/
def row1 (x : FVec Ideal S3072x256 .bf16) (w : FVec Ideal S192x480 .bf16) (b : FVec Ideal S96x1 .f32) (j : Fin 14) : FVec Ideal S96x256 .bf16 :=
  pooled slices_S192x256_o0_0_S96x256 slices_S192x256_o96_0_S96x256 shapeCasts_S96x1_S96x1 broadcasts_S96x1_S96x256
    (prod1 x w (2 * j.val) (by have := j.isLt; omega)) (prod1 x w (2 * j.val + 1) (by have := j.isLt; omega)) b

/-- The second convolution at row `i` of the first layer's rows `h`. -/
def prod2 (h : Fin 14 → FVec Ideal S96x256 .bf16) (w : FVec Ideal S160x480 .bf16) (i : ℕ) (hi : i < 10) : FVec Ideal S160x256 .f32 :=
  matmul dot_S160x480_S480x256_S160x256_1_0_0_1_n_n none w
    (concatenate S480x256 0
      (List.ofFn fun k : Fin 5 => (⟨S96x256, h ⟨i + k.val, by have := k.isLt; omega⟩⟩ : (s : Shape) × (s.Idx → Ideal .bf16)))
      concatenates_S96x256_S96x256_S96x256_S96x256_S96x256_S480x256_d0)
    (constant S160x256 .f32 0x00000000#32)

/-- The second layer's output row `j`. -/
def row2 (h : Fin 14 → FVec Ideal S96x256 .bf16) (w : FVec Ideal S160x480 .bf16) (b : FVec Ideal S80x1 .f32) (j : Fin 5) : FVec Ideal S80x256 .bf16 :=
  pooled slices_S160x256_o0_0_S80x256 slices_S160x256_o80_0_S80x256 shapeCasts_S80x1_S80x1 broadcasts_S80x1_S80x256
    (prod2 h w (2 * j.val) (by have := j.isLt; omega)) (prod2 h w (2 * j.val + 1) (by have := j.isLt; omega)) b

/-- A product with a bias down its rows. -/
def biased {M : ℕ} (hc : (⟨2, ![M, 1]⟩ : Shape).ShapeCasts ⟨2, ![M, 1]⟩) (hb : (⟨2, ![M, 1]⟩ : Shape).Broadcasts ⟨2, ![M, 256]⟩)
    (u : FVec Ideal ⟨2, ![M, 256]⟩ .f32) (b : FVec Ideal ⟨2, ![M, 1]⟩ .f32) : FVec Ideal ⟨2, ![M, 256]⟩ .f32 :=
  addf u (broadcastTo ⟨2, ![M, 256]⟩ (shapeCast ⟨2, ![M, 1]⟩ b hc) hb)

/-- The rectifier. -/
def relu {M : ℕ} (u : FVec Ideal ⟨2, ![M, 256]⟩ .f32) : FVec Ideal ⟨2, ![M, 256]⟩ .f32 :=
  maximumf u (broadcast ⟨2, ![M, 256]⟩ (Scalar.ofBits .f32 0x00000000#32))

/-- The two dense layers over the second layer's rows stacked, the last one before its bias. -/
def dense12 (h : Fin 14 → FVec Ideal S96x256 .bf16) (w : FVec Ideal S160x480 .bf16) (b : FVec Ideal S80x1 .f32)
    (f1 : FVec Ideal S120x400 .bf16) (c1 : FVec Ideal S120x1 .f32) (f2 : FVec Ideal S84x120 .bf16) : FVec Ideal S84x256 .f32 :=
  matmul dot_S84x120_S120x256_S84x256_1_0_0_1_n_n none (shapeCast S84x120 f2 shapeCasts_S84x120_S84x120)
    (truncf .bf16 (relu (biased shapeCasts_S120x1_S120x1 broadcasts_S120x1_S120x256
      (matmul dot_S120x400_S400x256_S120x256_1_0_0_1_n_n none (shapeCast S120x400 f1 shapeCasts_S120x400_S120x400)
        (concatenate S400x256 0
          (List.ofFn fun j : Fin 5 => (⟨S80x256, row2 h w b j⟩ : (s : Shape) × (s.Idx → Ideal .bf16)))
          concatenates_S80x256_S80x256_S80x256_S80x256_S80x256_S400x256_d0)
        (constant S120x256 .f32 0x00000000#32)) c1)) bitsLt_bf16_f32)
    (constant S84x256 .f32 0x00000000#32)

theorem dense12_eq (h : Fin 14 → FVec Ideal S96x256 .bf16) (w : FVec Ideal S160x480 .bf16) (b : FVec Ideal S80x1 .f32)
    (f1 : FVec Ideal S120x400 .bf16) (c1 : FVec Ideal S120x1 .f32) (f2 : FVec Ideal S84x120 .bf16) :
    k0_pay65 w (h 8) (h 9) (h 10) (h 11) (h 12) (h 13)
      (k0_pay60 (k0_pay58 w (h 0) (h 1) (h 2) (h 3) (h 4)) (k0_pay59 w (h 1) (h 2) (h 3) (h 4) (h 5)) b)
      (k0_pay61 w (h 2) (h 3) (h 4) (h 5) (h 6) (h 7) b) (k0_pay62 w (h 4) (h 5) (h 6) (h 7) (h 8) (h 9) b)
      (k0_pay63 w (h 6) (h 7) (h 8) (h 9) (h 10)) (k0_pay64 w (h 7) (h 8) (h 9) (h 10) (h 11)) b b f1 c1 f2
      = dense12 h w b f1 c1 f2 := rfl

/-- The two dense layers of a grid point, from the point's blocks. -/
theorem pay83_eq (x0 : Vec Ideal S3072x256 .f32) (x1 : Vec Ideal S192x480 .bf16) (x2 : Vec Ideal S96x1 .f32)
    (x3 : Vec Ideal S160x480 .bf16) (x4 : Vec Ideal S80x1 .f32) (x5 : Vec Ideal S120x400 .bf16) (x6 : Vec Ideal S120x1 .f32)
    (x7 : Vec Ideal S84x120 .bf16) (x8 : Vec Ideal S84x1 .f32) (x9 : Vec Ideal S2x84 .bf16) (x10 : Vec Ideal S4096x84 .bf16)
    (x11 : Vec Ideal S4096x1 .f32) (x12 : Vec Ideal S84x4096 .bf16) (x13 : Vec Ideal S84x2 .f32) (x14 : Vec Ideal S10x84 .f32)
    (x15 : Vec Ideal S10x1 .f32) :
    k0_pay83 x0 x1 x2 x3 x4 x5 x6 x7 x8 x9 x10 x11 x12 x13 x14 x15
      = dense12 (row1 (k0_pay2 (View.ld x0 r0_0)) (k0_pay3 (View.ld x1 r0_1)) (View.ld x2 r0_3)) (k0_pay4 (View.ld x3 r0_2))
          (View.ld x4 r0_4) (View.ld x5 r0_5) (View.ld x6 r0_6) (View.ld x7 r0_7) :=
  dense12_eq (row1 (k0_pay2 (View.ld x0 r0_0)) (k0_pay3 (View.ld x1 r0_1)) (View.ld x2 r0_3)) (k0_pay4 (View.ld x3 r0_2))
          (View.ld x4 r0_4) (View.ld x5 r0_5) (View.ld x6 r0_6) (View.ld x7 r0_7)

end Cert.Val
-- ==== Proof.Spec.lean ====
/- The network's mathematics for one sample, over the extended reals, and the facts about the extended reals that the
   two programs' different arrangements of it come down to. -/
module

public import Idealize.ShloMosaic.PureOps.Ideal.Laws

@[expose] public section

noncomputable section

namespace Cert.Val

open Idealize.ShloMosaic

/-! ### The layers -/

/-- One 5×5 correlation over `C` channels, at row `y` and column `z`. -/
def conv {C H W : ℕ} (x : Fin C → Fin (H + 4) → Fin (W + 4) → EReal) (w : Fin C → Fin 5 → Fin 5 → EReal)
    (y : Fin H) (z : Fin W) : EReal :=
  ∑ c : Fin C, ∑ di : Fin 5, ∑ dj : Fin 5,
    w c di dj * x c ⟨y.val + di.val, by omega⟩ ⟨z.val + dj.val, by omega⟩

/-- The `p`-th of the two places an axis of extent `2 h` gives the pooled place `i`. -/
def at2 {h : ℕ} (i : Fin h) (p : Fin 2) : Fin (2 * h) := ⟨2 * i.val + p.val, by omega⟩

/-- One convolution layer: correlation, 2×2 maximum, bias, rectifier. -/
def layer {C h : ℕ} (x : Fin C → Fin (2 * h + 4) → Fin (2 * h + 4) → EReal) (w : Fin C → Fin 5 → Fin 5 → EReal)
    (b : EReal) (i j : Fin h) : EReal :=
  max (max (max (conv x w (at2 i 0) (at2 j 0)) (conv x w (at2 i 1) (at2 j 0)))
      (max (conv x w (at2 i 0) (at2 j 1)) (conv x w (at2 i 1) (at2 j 1))) + b) 0

/-- A dense layer's rectified output. -/
def dense {K : ℕ} (w : Fin K → EReal) (x : Fin K → EReal) (b : EReal) : EReal := max ((∑ k, w k * x k) + b) 0

/-- The first dense layer's rectified output, its input a 16×5×5 image flattened in row-major order. -/
def dense3 (w : Fin 400 → EReal) (x : Fin 16 → Fin 5 → Fin 5 → EReal) (b : EReal) : EReal :=
  max ((∑ o : Fin 16, ∑ i : Fin 5, ∑ j : Fin 5, w ⟨o.val * 25 + i.val * 5 + j.val, by omega⟩ * x o i j) + b) 0

/-- The exponential of a logit less the greater of the two. -/
def expo (l : Fin 2 → EReal) (e : Fin 2) : EReal := Ideal.exp (l e - max (l 0) (l 1))

/-- The gate's weight of an expert. -/
def gate (l : Fin 2 → EReal) (e : Fin 2) : EReal := Ideal.div (expo l e) (expo l 0 + expo l 1)

/-- One expert's output. -/
def expert {D H : ℕ} (h : Fin D → EReal) (w1 : Fin D → Fin H → EReal) (b1 : Fin H → EReal)
    (w2 : Fin H → EReal) (b2 : EReal) : EReal :=
  (∑ k : Fin H, dense (fun d => w1 d k) h (b1 k) * w2 k) + b2

/-! ### Finite extended reals -/

/-- Neither infinity. -/
def Fin' (a : EReal) : Prop := a ≠ ⊤ ∧ a ≠ ⊥

theorem Fin'.coe (r : ℝ) : Fin' (r : EReal) := ⟨EReal.coe_ne_top r, EReal.coe_ne_bot r⟩

theorem Fin'.exists {a : EReal} (h : Fin' a) : ∃ r : ℝ, a = (r : EReal) := ⟨a.toReal, (EReal.coe_toReal h.1 h.2).symm⟩

theorem Fin'.zero : Fin' 0 := Fin'.coe 0

theorem Fin'.add {a b : EReal} (ha : Fin' a) (hb : Fin' b) : Fin' (a + b) := by
  obtain ⟨r, rfl⟩ := ha.exists; obtain ⟨s, rfl⟩ := hb.exists
  rw [← EReal.coe_add]; exact Fin'.coe _

theorem Fin'.mul {a b : EReal} (ha : Fin' a) (hb : Fin' b) : Fin' (a * b) := by
  obtain ⟨r, rfl⟩ := ha.exists; obtain ⟨s, rfl⟩ := hb.exists
  rw [← EReal.coe_mul]; exact Fin'.coe _

theorem Fin'.max {a b : EReal} (ha : Fin' a) (hb : Fin' b) : Fin' (max a b) := by
  rcases max_choice a b with h | h <;> rw [h] <;> assumption

theorem Fin'.sum {ι : Type} (s : Finset ι) (f : ι → EReal) (h : ∀ i, Fin' (f i)) : Fin' (∑ i ∈ s, f i) := by
  classical
  induction s using Finset.induction_on with
  | empty => rw [Finset.sum_empty]; exact Fin'.zero
  | insert a s ha ih => rw [Finset.sum_insert ha]; exact (h a).add ih

theorem Fin'.conv {C H W : ℕ} {x : Fin C → Fin (H + 4) → Fin (W + 4) → EReal} {w : Fin C → Fin 5 → Fin 5 → EReal}
    (hx : ∀ c y z, Fin' (x c y z)) (hw : ∀ c y z, Fin' (w c y z)) (y : Fin H) (z : Fin W) : Fin' (conv x w y z) :=
  Fin'.sum _ _ fun _ => Fin'.sum _ _ fun _ => Fin'.sum _ _ fun _ => (hw _ _ _).mul (hx _ _ _)

theorem Fin'.layer {C h : ℕ} {x : Fin C → Fin (2 * h + 4) → Fin (2 * h + 4) → EReal}
    {w : Fin C → Fin 5 → Fin 5 → EReal} {b : EReal} (hx : ∀ c y z, Fin' (x c y z)) (hw : ∀ c y z, Fin' (w c y z))
    (hb : Fin' b) (i j : Fin h) : Fin' (layer x w b i j) :=
  ((((Fin'.conv hx hw _ _).max (Fin'.conv hx hw _ _)).max
    ((Fin'.conv hx hw _ _).max (Fin'.conv hx hw _ _))).add hb).max Fin'.zero

theorem Fin'.dense {K : ℕ} {w x : Fin K → EReal} {b : EReal} (hw : ∀ k, Fin' (w k)) (hx : ∀ k, Fin' (x k))
    (hb : Fin' b) : Fin' (dense w x b) :=
  ((Fin'.sum _ _ fun k => (hw k).mul (hx k)).add hb).max Fin'.zero

theorem Fin'.dense3 {w : Fin 400 → EReal} {x : Fin 16 → Fin 5 → Fin 5 → EReal} {b : EReal} (hw : ∀ k, Fin' (w k))
    (hx : ∀ o i j, Fin' (x o i j)) (hb : Fin' b) : Fin' (dense3 w x b) :=
  ((Fin'.sum _ _ fun _ => Fin'.sum _ _ fun _ => Fin'.sum _ _ fun _ => (hw _).mul (hx _ _ _)).add hb).max Fin'.zero

/-- `|a| < ∞` says that `a` is finite. -/
theorem Fin'.of_abs_lt {a : EReal} (h : Max.max a (-a) < ⊤) : Fin' a := by
  constructor
  · rintro rfl; simp at h
  · rintro rfl; simp at h

/-! ### The pooling and the rectifier -/

/-- Adding one amount keeps the order, so it goes through a maximum. -/
theorem max_add (a b c : EReal) : max (a + c) (b + c) = max a b + c :=
  (Monotone.map_max (f := fun t : EReal => t + c) (fun _ _ h => add_le_add_left h c)).symm

/-- The pool of the rectified, biased values is the rectified, biased pool. -/
theorem pool_relu (a b c d t : EReal) :
    max (max (max (max ⊥ (max (a + t) 0)) (max (b + t) 0)) (max (c + t) 0)) (max (d + t) 0)
      = max (max (max a c) (max b d) + t) 0 := by
  rw [bot_sup_eq, ← max_add (max a c), ← max_add a c, ← max_add b d]
  apply le_antisymm <;> (repeat' apply max_le) <;> simp only [le_max_iff, le_refl, true_or, or_true]

/-! ### The gate -/

/-- At finite logits the exponentials are positive reals. -/
theorem expo_real {l : Fin 2 → EReal} (hl : ∀ e, Fin' (l e)) (e : Fin 2) :
    ∃ r : ℝ, 0 < r ∧ expo l e = (r : EReal) := by
  obtain ⟨a, ha⟩ := (hl e).exists
  obtain ⟨b, hb⟩ := ((hl 0).max (hl 1)).exists
  refine ⟨Real.exp (a - b), Real.exp_pos _, ?_⟩
  unfold expo
  rw [ha, hb, ← EReal.coe_sub]
  rfl

/-- A quotient of reals by a nonzero real is the reals' quotient. -/
theorem div_coe (a b : ℝ) (hb : b ≠ 0) : Ideal.div (a : EReal) (b : EReal) = ((a / b : ℝ) : EReal) := by
  unfold Ideal.div
  rw [if_neg (fun h => hb (EReal.coe_eq_zero.1 h)), ← EReal.coe_inv, ← EReal.coe_mul, div_eq_mul_inv]

/-- At finite logits the gate's weights are nonnegative reals that sum to one. -/
theorem gate_real {l : Fin 2 → EReal} (hl : ∀ e, Fin' (l e)) :
    ∃ s : Fin 2 → ℝ, (∀ e, 0 ≤ s e) ∧ s 0 + s 1 = 1 ∧ ∀ e, gate l e = (s e : EReal) := by
  choose r hr he using expo_real hl
  have hp : 0 < r 0 + r 1 := add_pos (hr 0) (hr 1)
  refine ⟨fun e => r e / (r 0 + r 1), fun e => div_nonneg (hr e).le hp.le, ?_, fun e => ?_⟩
  · show r 0 / (r 0 + r 1) + r 1 / (r 0 + r 1) = 1
    rw [← add_div, div_self hp.ne']
  · unfold gate
    rw [he, he, he, ← EReal.coe_add, div_coe _ _ hp.ne']

/-- A nonnegative real goes into a finite sum. -/
theorem real_mul_sum {ι : Type} (s : Finset ι) (f : ι → EReal) (r : ℝ) (hr : 0 ≤ r) :
    (r : EReal) * ∑ i ∈ s, f i = ∑ i ∈ s, (r : EReal) * f i := by
  classical
  induction s using Finset.induction_on with
  | empty => simp
  | insert a s ha ih =>
    rw [Finset.sum_insert ha, Finset.sum_insert ha, ← ih,
      EReal.left_distrib_of_nonneg_of_ne_top (EReal.coe_nonneg.2 hr) (EReal.coe_ne_top r)]

/-- The experts' outputs weighted before the second matrix are the outputs weighted after it. -/
theorem moe {H : ℕ} {l : Fin 2 → EReal} (hl : ∀ e, Fin' (l e)) (a : Fin 2 → Fin H → EReal)
    (w : Fin 2 → Fin H → EReal) (b : Fin 2 → EReal) :
    (∑ e, ∑ k, w e k * (a e k * gate l e)) + ∑ e, b e * gate l e
      = ∑ e, gate l e * ((∑ k, a e k * w e k) + b e) := by
  obtain ⟨s, hs, -, hg⟩ := gate_real hl
  rw [← Finset.sum_add_distrib]
  refine Finset.sum_congr rfl fun e _ => ?_
  rw [hg, EReal.left_distrib_of_nonneg_of_ne_top (EReal.coe_nonneg.2 (hs e)) (EReal.coe_ne_top _),
    real_mul_sum _ _ _ (hs e), mul_comm (b e)]
  congr 1
  refine Finset.sum_congr rfl fun k _ => ?_
  rw [mul_comm (a e k), mul_left_comm, mul_comm (w e k)]

/-- Dividing by a sum of weights that is one leaves a real weight alone. -/
theorem div_one (a : ℝ) : Ideal.div (a : EReal) ((1 : ℝ) : EReal) = (a : EReal) := by
  rw [div_coe _ _ one_ne_zero, _root_.div_one]

/-! ### Sums over an axis cut in blocks -/

/-- A place in block `i` of `a` blocks of `b`. -/
theorem blk_lt {a b N : ℕ} (h : N = a * b) (i : Fin a) (j : Fin b) : i.val * b + j.val < N := by
  subst h
  calc i.val * b + j.val < i.val * b + b := Nat.add_lt_add_left j.isLt _
    _ = (i.val + 1) * b := (Nat.succ_mul _ _).symm
    _ ≤ a * b := Nat.mul_le_mul_right _ i.isLt

/-- A sum over an axis of `a` blocks of `b`, block by block. -/
theorem sum_blk {M : Type} [AddCommMonoid M] {a b N : ℕ} (h : N = a * b) (f : Fin N → M) :
    ∑ k, f k = ∑ i : Fin a, ∑ j : Fin b, f ⟨i.val * b + j.val, blk_lt h i j⟩ := by
  subst h
  rw [← Equiv.sum_comp finProdFinEquiv, Fintype.sum_prod_type]
  refine Finset.sum_congr rfl fun i _ => Finset.sum_congr rfl fun j _ => congrArg f (Fin.ext ?_)
  show j.val + b * i.val = i.val * b + j.val
  rw [Nat.mul_comm, Nat.add_comm]

/-! ### A banded matrix times a vector -/

/-- A row of a banded matrix, whose entry at `x` gathers the coefficients `w d` with `x = s + d`, times a vector:
    the five products of the band. -/
theorem band {N : ℕ} (w : Fin 5 → EReal) (X : Fin N → EReal) (s : ℕ) (hs : ∀ d : Fin 5, s + d.val < N) :
    ∑ x : Fin N, (∑ d : Fin 5, w d * (if x.val = s + d.val then 1 else 0)) * X x
      = ∑ d : Fin 5, w d * X ⟨s + d.val, hs d⟩ := by
  symm
  refine Fintype.sum_of_injective (fun d : Fin 5 => (⟨s + d.val, hs d⟩ : Fin N)) (fun a b h => ?_) _ _ (fun x hx => ?_)
    fun d => ?_
  · have := Fin.ext_iff.1 h; exact Fin.ext (by simpa using this)
  · rw [Finset.sum_eq_zero fun d _ => ?_, zero_mul]
    rw [if_neg fun h => hx ⟨d, Fin.ext h.symm⟩, mul_zero]
  · rw [Finset.sum_eq_single d fun b _ hb => ?_, if_pos rfl, mul_one]
    · intro h; exact absurd (Finset.mem_univ d) h
    · rw [if_neg fun h => hb (Fin.ext (by simpa using h.symm)), mul_zero]

end Cert.Val

end
-- ==== Proof.KernelConv.lean ====
/- The kernel's convolution rows read at an index. -/
module

public import proofs.«01_k».proof.Proof.KernelRows
public import proofs.«01_k».proof.Proof.Spec
public import Idealize.ShloMosaic.Lib.MatmulPlain
public import Idealize.ShloMosaic.Lib.Pipeline.Value
public import Idealize.ShloMosaic.Lib.ValueIdx

@[expose] public section

noncomputable section

namespace Cert.Val

open Cert.KernelIdeal Cert.KernelIdeal.Gen
open Idealize.ShloMosaic Idealize.ShloMosaic.ValueIdx

/-- A column broadcast over the samples. -/
theorem column_apply {M : ℕ} (hM : M ≠ 1) {hc : (⟨2, ![M, 1]⟩ : Shape).ShapeCasts ⟨2, ![M, 1]⟩} {hb : (⟨2, ![M, 1]⟩ : Shape).Broadcasts ⟨2, ![M, 256]⟩}
    (b : FVec Ideal ⟨2, ![M, 1]⟩ .f32) (q : Fin M) (n : Fin 256) :
    broadcastTo ⟨2, ![M, 256]⟩ (shapeCast ⟨2, ![M, 1]⟩ b hc) hb (ix2 q n) = b (ix2 q 0) := by
  rw [shapeCast_self]
  refine broadcastTo_apply b hb (ix2 q n) (ix2 q 0) fun a => ?_
  match a with
  | ⟨0, _⟩ => exact (if_neg hM).symm
  | ⟨1, _⟩ => rfl

theorem pooled_apply {M P : ℕ} (hP : P ≠ 1) {h0 : (⟨2, ![M, 256]⟩ : Shape).Slices ![0, 0] ⟨2, ![P, 256]⟩}
    {h1 : (⟨2, ![M, 256]⟩ : Shape).Slices ![P, 0] ⟨2, ![P, 256]⟩}
    {hc : (⟨2, ![P, 1]⟩ : Shape).ShapeCasts ⟨2, ![P, 1]⟩} {hb : (⟨2, ![P, 1]⟩ : Shape).Broadcasts ⟨2, ![P, 256]⟩}
    (u v : FVec Ideal ⟨2, ![M, 256]⟩ .f32) (b : FVec Ideal ⟨2, ![P, 1]⟩ .f32) (q : Fin P) (n : Fin 256)
    (q0 q1 : Fin M) (e0 : q0.val = q.val) (e1 : q1.val = P + q.val) :
    pooled h0 h1 hc hb u v b (ix2 q n)
      = max (max (max (u (ix2 q0 n)) (v (ix2 q0 n))) (max (u (ix2 q1 n)) (v (ix2 q1 n))) + b (ix2 q 0)) 0 := by
  have s0 : extractStridedSlice ⟨2, ![P, 256]⟩ ![0, 0] (maximumf u v) h0 (ix2 q n) = max (u (ix2 q0 n)) (v (ix2 q0 n)) :=
    extractStridedSlice_apply _ (maximumf u v) h0 (ix2 q n) (ix2 q0 n) fun a => match a with
      | ⟨0, _⟩ => e0.trans (Nat.zero_add _).symm
      | ⟨1, _⟩ => (Nat.zero_add _).symm
  have s1 : extractStridedSlice ⟨2, ![P, 256]⟩ ![P, 0] (maximumf u v) h1 (ix2 q n) = max (u (ix2 q1 n)) (v (ix2 q1 n)) :=
    extractStridedSlice_apply _ (maximumf u v) h1 (ix2 q n) (ix2 q1 n) fun a => match a with
      | ⟨0, _⟩ => e1
      | ⟨1, _⟩ => (Nat.zero_add _).symm
  have s2 := column_apply hP (hc := hc) (hb := hb) b q n
  have s3 : (Scalar.ofBits .f32 0x00000000#32 : Ideal .f32) = (0 : EReal) := Ideal.ofBits_zero_f32
  show max (max (extractStridedSlice ⟨2, ![P, 256]⟩ ![0, 0] (maximumf u v) h0 (ix2 q n))
      (extractStridedSlice ⟨2, ![P, 256]⟩ ![P, 0] (maximumf u v) h1 (ix2 q n))
      + broadcastTo ⟨2, ![P, 256]⟩ (shapeCast ⟨2, ![P, 1]⟩ b hc) hb (ix2 q n)) (Scalar.ofBits .f32 0x00000000#32 : Ideal .f32) = _
  rw [s0, s1, s2, s3]

/-- A product into a zero accumulator. -/
theorem mm_apply {M K N : ℕ} {φ₁ φ₂ : FTy} (w : FVec Ideal ⟨2, ![M, K]⟩ φ₁) (x : FVec Ideal ⟨2, ![K, N]⟩ φ₂) (r : Fin M) (n : Fin N) :
    matmul (DotDims.plain M K N) none w x (constant ⟨2, ![M, N]⟩ .f32 0x00000000#32) (ix2 r n)
      = ∑ k, w (ix2 r k) * x (ix2 k n) := by
  refine (Ideal.matmul_plain_apply none w x _ r n).trans ?_
  rw [show (constant (F := Ideal) ⟨2, ![M, N]⟩ .f32 0x00000000#32) (ix2 r n) = (0 : EReal) from Ideal.ofBits_zero_f32, zero_add]

/-! ### The first layer -/

theorem slab_apply (x : FVec Ideal S3072x256 .bf16) (i : ℕ) (hi : i < 28) (c : Fin 3) (d : Fin 5) (z : Fin 32) (n : Fin 256)
    (k : Fin 480) (hk : k.val = (c.val * 5 + d.val) * 32 + z.val) :
    slab x i hi (ix2 k n) = x (ix2 ⟨c.val * 1024 + ((i + d.val) * 32 + z.val), by omega⟩ n) := by
  refine (concatenate_ofFn_apply (t := S480x256) (s₁ := S32x256) 0 (fun k : Fin 15 => extractStridedSlice S32x256 ![start i k, 0] x (start_slices hi k)) _
    rfl 32 rfl (ix2 k n) ⟨c.val * 5 + d.val, by omega⟩ (by show k.val / 32 = _; simp only []; omega) (ix2 z n)
    (by show z.val = k.val % 32; omega) fun b hb => ?_).trans ?_
  · match b with
    | ⟨0, _⟩ => exact absurd rfl hb
    | ⟨1, _⟩ => rfl
  · refine extractStridedSlice_apply _ x _ (ix2 z n) _ fun a => ?_
    match a with
    | ⟨0, _⟩ => show c.val * 1024 + ((i + d.val) * 32 + z.val) = (c.val * 5 + d.val) / 5 * 1024 + (i + (c.val * 5 + d.val) % 5) * 32 + z.val; omega
    | ⟨1, _⟩ => exact (Nat.zero_add _).symm

/-- What the first layer's packed weights hold: the kernel's columns spread over the image row, one band per output column. -/
def Packed1 (w : FVec Ideal S192x480 .bf16) (W : Fin 6 → Fin 3 → Fin 5 → Fin 5 → EReal) : Prop :=
  ∀ (p : Fin 2) (o : Fin 6) (j : Fin 14) (c : Fin 3) (d : Fin 5) (z : Fin 32),
    w (ix2 ⟨p.val * 96 + (o.val * 14 + j.val), by omega⟩ ⟨(c.val * 5 + d.val) * 32 + z.val, by omega⟩)
      = ∑ e : Fin 5, W o c d e * (if z.val = 2 * j.val + p.val + e.val then 1 else 0)

variable (x : FVec Ideal S3072x256 .bf16) (w : FVec Ideal S192x480 .bf16) (W : Fin 6 → Fin 3 → Fin 5 → Fin 5 → EReal)

theorem prod1_apply (hw : Packed1 w W) (X : Fin 3 → Fin 32 → Fin 32 → EReal) (n : Fin 256)
    (hX : ∀ c y z, x (ix2 ⟨c.val * 1024 + (y.val * 32 + z.val), by omega⟩ n) = X c y z)
    (i : ℕ) (hi : i < 28) (p : Fin 2) (o : Fin 6) (j : Fin 14) (r : Fin 192) (hr : r.val = p.val * 96 + (o.val * 14 + j.val)) :
    prod1 x w i hi (ix2 r n) = conv (H := 28) (W := 28) X (W o) ⟨i, hi⟩ (at2 j p) := by
  have hr' : (⟨p.val * 96 + (o.val * 14 + j.val), by omega⟩ : Fin 192) = r := Fin.ext hr.symm
  rw [← hr']
  refine (mm_apply w (slab x i hi) _ n).trans ?_
  rw [sum_blk (a := 15) (b := 32) rfl, sum_blk (a := 3) (b := 5) rfl]
  refine Finset.sum_congr rfl fun c _ => Finset.sum_congr rfl fun d _ => ?_
  refine (Finset.sum_congr rfl fun z _ => congrArg₂ (· * ·) (hw p o j c d z)
    ((slab_apply x i hi c d z n _ rfl).trans (hX c ⟨i + d.val, by omega⟩ z))).trans ?_
  exact band (fun e => W o c d e) (fun z : Fin 32 => X c ⟨i + d.val, by omega⟩ z) (2 * j.val + p.val) (fun e => by omega)

theorem row1_apply (hw : Packed1 w W) (b : FVec Ideal S96x1 .f32) (B : Fin 6 → EReal)
    (hb : ∀ (o : Fin 6) (j : Fin 14), b (ix2 ⟨o.val * 14 + j.val, by omega⟩ 0) = B o)
    (X : Fin 3 → Fin 32 → Fin 32 → EReal) (n : Fin 256)
    (hX : ∀ c y z, x (ix2 ⟨c.val * 1024 + (y.val * 32 + z.val), by omega⟩ n) = X c y z)
    (i : Fin 14) (o : Fin 6) (j : Fin 14) :
    row1 x w b i (ix2 ⟨o.val * 14 + j.val, by omega⟩ n) = layer (h := 14) X (W o) (B o) i j := by
  unfold row1
  refine (pooled_apply (M := 192) (P := 96) (by decide) _ _ b _ n ⟨o.val * 14 + j.val, by omega⟩ ⟨96 + (o.val * 14 + j.val), by omega⟩ rfl rfl).trans ?_
  rw [hb, prod1_apply x w W hw X n hX _ _ 0 o j _ (by simp), prod1_apply x w W hw X n hX _ _ 0 o j _ (by simp),
    prod1_apply x w W hw X n hX _ _ 1 o j _ (by simp), prod1_apply x w W hw X n hX _ _ 1 o j _ (by simp)]
  rfl

/-! ### The second layer -/

/-- What the second layer's packed weights hold: the band of the first layer's output row, and zeros where that row is padding. -/
structure Packed2 (w : FVec Ideal S160x480 .bf16) (W : Fin 16 → Fin 6 → Fin 5 → Fin 5 → EReal) : Prop where
  band : ∀ (p : Fin 2) (o : Fin 16) (j : Fin 5) (c : Fin 6) (d : Fin 5) (z : Fin 14),
    w (ix2 ⟨p.val * 80 + (o.val * 5 + j.val), by omega⟩ ⟨d.val * 96 + (c.val * 14 + z.val), by omega⟩)
      = ∑ e : Fin 5, W o c d e * (if z.val = 2 * j.val + p.val + e.val then 1 else 0)
  zero : ∀ (r : Fin 160) (d : Fin 5) (q : Fin 12), w (ix2 r ⟨d.val * 96 + (84 + q.val), by omega⟩) = 0

theorem prod2_apply (h : Fin 14 → FVec Ideal S96x256 .bf16) (w : FVec Ideal S160x480 .bf16) (W : Fin 16 → Fin 6 → Fin 5 → Fin 5 → EReal)
    (hw : Packed2 w W) (X : Fin 6 → Fin 14 → Fin 14 → EReal) (n : Fin 256)
    (hX : ∀ c y z, h y (ix2 ⟨c.val * 14 + z.val, by omega⟩ n) = X c y z)
    (i : ℕ) (hi : i < 10) (p : Fin 2) (o : Fin 16) (j : Fin 5) (r : Fin 160) (hr : r.val = p.val * 80 + (o.val * 5 + j.val)) :
    prod2 h w i hi (ix2 r n) = conv (H := 10) (W := 10) X (W o) ⟨i, hi⟩ (at2 j p) := by
  have hr' : (⟨p.val * 80 + (o.val * 5 + j.val), by omega⟩ : Fin 160) = r := Fin.ext hr.symm
  rw [← hr']
  have hcat : ∀ (d : Fin 5) (q : Fin 96) (k : Fin 480), k.val = d.val * 96 + q.val →
      concatenate S480x256 0
        (List.ofFn fun k : Fin 5 => (⟨S96x256, h ⟨i + k.val, by have := k.isLt; omega⟩⟩ : (s : Shape) × (s.Idx → Ideal .bf16)))
        concatenates_S96x256_S96x256_S96x256_S96x256_S96x256_S480x256_d0 (ix2 k n) = h ⟨i + d.val, by omega⟩ (ix2 q n) := by
    intro d q k hk
    refine concatenate_ofFn_apply (t := S480x256) (s₁ := S96x256) 0 (fun k : Fin 5 => h ⟨i + k.val, by have := k.isLt; omega⟩) _
      rfl 96 rfl (ix2 k n) d (by show k.val / 96 = _; omega) (ix2 q n) (by show q.val = k.val % 96; omega) fun b hb => ?_
    match b with
    | ⟨0, _⟩ => exact absurd rfl hb
    | ⟨1, _⟩ => rfl
  refine (mm_apply w _ _ n).trans ?_
  rw [sum_blk (a := 5) (b := 96) rfl]
  rw [show conv (H := 10) (W := 10) X (W o) ⟨i, hi⟩ (at2 j p) = ∑ d : Fin 5, ∑ c : Fin 6, ∑ e : Fin 5,
    W o c d e * X c ⟨i + d.val, by omega⟩ ⟨(at2 j p).val + e.val, by omega⟩ from Finset.sum_comm]
  refine Finset.sum_congr rfl fun d _ => ?_
  refine (Fin.sum_univ_add (a := 84) (b := 12) _).trans ?_
  refine (congrArg₂ (· + ·) (sum_blk (a := 6) (b := 14) rfl _) (Finset.sum_eq_zero fun q _ => ?_)).trans ?_
  · exact (congrArg (· * _) (hw.zero _ d q)).trans (zero_mul _)
  · refine (add_zero _).trans (Finset.sum_congr rfl fun c _ => ?_)
    refine (Finset.sum_congr rfl fun z _ => congrArg₂ (· * ·) (hw.band p o j c d z)
      ((hcat d ⟨c.val * 14 + z.val, by omega⟩ _ rfl).trans (hX c ⟨i + d.val, by omega⟩ z))).trans ?_
    exact band (fun e => W o c d e) (fun z : Fin 14 => X c ⟨i + d.val, by omega⟩ z) (2 * j.val + p.val) (fun e => by omega)

theorem row2_apply (h : Fin 14 → FVec Ideal S96x256 .bf16) (w : FVec Ideal S160x480 .bf16) (W : Fin 16 → Fin 6 → Fin 5 → Fin 5 → EReal)
    (hw : Packed2 w W) (b : FVec Ideal S80x1 .f32) (B : Fin 16 → EReal)
    (hb : ∀ (o : Fin 16) (j : Fin 5), b (ix2 ⟨o.val * 5 + j.val, by omega⟩ 0) = B o)
    (X : Fin 6 → Fin 14 → Fin 14 → EReal) (n : Fin 256)
    (hX : ∀ c y z, h y (ix2 ⟨c.val * 14 + z.val, by omega⟩ n) = X c y z) (i : Fin 5) (o : Fin 16) (j : Fin 5) :
    row2 h w b i (ix2 ⟨o.val * 5 + j.val, by omega⟩ n) = layer (h := 5) X (W o) (B o) i j := by
  unfold row2
  refine (pooled_apply (M := 160) (P := 80) (by decide) _ _ b _ n ⟨o.val * 5 + j.val, by omega⟩ ⟨80 + (o.val * 5 + j.val), by omega⟩ rfl rfl).trans ?_
  rw [hb, prod2_apply h w W hw X n hX _ _ 0 o j _ (by simp), prod2_apply h w W hw X n hX _ _ 0 o j _ (by simp),
    prod2_apply h w W hw X n hX _ _ 1 o j _ (by simp), prod2_apply h w W hw X n hX _ _ 1 o j _ (by simp)]
  rfl

end Cert.Val
-- ==== Proof.Net.lean ====
/- The network on the whole batch: every layer at a sample, as a function of the sixteen argument arrays. -/
module

public import proofs.«01_k».proof.Proof.Spec
public import Idealize.ShloMosaic.Lib.ValueIdx

@[expose] public section

noncomputable section

namespace Cert.Val

open Idealize.ShloMosaic Idealize.ShloMosaic.ValueIdx

/-- The sixteen arguments. -/
structure Args where
  x : (⟨4, ![4096, 3, 32, 32]⟩ : Shape).Idx → EReal
  c1w : (⟨4, ![6, 3, 5, 5]⟩ : Shape).Idx → EReal
  c1b : (⟨1, ![6]⟩ : Shape).Idx → EReal
  c2w : (⟨4, ![16, 6, 5, 5]⟩ : Shape).Idx → EReal
  c2b : (⟨1, ![16]⟩ : Shape).Idx → EReal
  f1w : (⟨2, ![120, 400]⟩ : Shape).Idx → EReal
  f1b : (⟨1, ![120]⟩ : Shape).Idx → EReal
  f2w : (⟨2, ![84, 120]⟩ : Shape).Idx → EReal
  f2b : (⟨1, ![84]⟩ : Shape).Idx → EReal
  gw : (⟨2, ![84, 2]⟩ : Shape).Idx → EReal
  w1 : (⟨3, ![2, 84, 2048]⟩ : Shape).Idx → EReal
  b1 : (⟨2, ![2, 2048]⟩ : Shape).Idx → EReal
  w2 : (⟨3, ![2, 2048, 84]⟩ : Shape).Idx → EReal
  b2 : (⟨2, ![2, 84]⟩ : Shape).Idx → EReal
  f3w : (⟨2, ![10, 84]⟩ : Shape).Idx → EReal
  f3b : (⟨1, ![10]⟩ : Shape).Idx → EReal

namespace Args

variable (A : Args) (n : Fin 4096)

/-- A sample's first convolution layer. -/
def img1 (o : Fin 6) (i j : Fin 14) : EReal :=
  layer (h := 14) (fun c y z => A.x (ix4 n c y z)) (fun c di dj => A.c1w (ix4 o c di dj)) (A.c1b (ix1 o)) i j

/-- Its second. -/
def img2 (o : Fin 16) (i j : Fin 5) : EReal :=
  layer (h := 5) (A.img1 n) (fun c di dj => A.c2w (ix4 o c di dj)) (A.c2b (ix1 o)) i j

/-- Its first dense layer. -/
def hid1 (q : Fin 120) : EReal := dense3 (fun k => A.f1w (ix2 q k)) (A.img2 n) (A.f1b (ix1 q))

/-- Its second. -/
def hid2 (d : Fin 84) : EReal := dense (fun k => A.f2w (ix2 d k)) (A.hid1 n) (A.f2b (ix1 d))

/-- Its gate logits. -/
def logit (e : Fin 2) : EReal := ∑ d, A.hid2 n d * A.gw (ix2 d e)

/-- An expert's output at a sample. -/
def exp (e : Fin 2) (d : Fin 84) : EReal :=
  expert (A.hid2 n) (fun d k => A.w1 (ix3 e d k)) (fun k => A.b1 (ix2 e k)) (fun k => A.w2 (ix3 e k d)) (A.b2 (ix2 e d))

/-- The mixture of the experts. -/
def mix (d : Fin 84) : EReal := ∑ e, gate (A.logit n) e * A.exp n e d

/-- The network's output. -/
def out (j : Fin 10) : EReal := (∑ d, A.mix n d * A.f3w (ix2 j d)) + A.f3b (ix1 j)

/-- The arguments the gate reads are finite. -/
structure Finite : Prop where
  x : ∀ i, Fin' (A.x i)
  c1w : ∀ i, Fin' (A.c1w i)
  c1b : ∀ i, Fin' (A.c1b i)
  c2w : ∀ i, Fin' (A.c2w i)
  c2b : ∀ i, Fin' (A.c2b i)
  f1w : ∀ i, Fin' (A.f1w i)
  f1b : ∀ i, Fin' (A.f1b i)
  f2w : ∀ i, Fin' (A.f2w i)
  f2b : ∀ i, Fin' (A.f2b i)
  gw : ∀ i, Fin' (A.gw i)

/-- Then so are the logits. -/
theorem Finite.logit {A : Args} (h : A.Finite) (n : Fin 4096) (e : Fin 2) : Fin' (A.logit n e) := by
  have h1 : ∀ o i j, Fin' (A.img1 n o i j) := fun o i j =>
    Fin'.layer (fun _ _ _ => h.x _) (fun _ _ _ => h.c1w _) (h.c1b _) i j
  have h2 : ∀ o i j, Fin' (A.img2 n o i j) := fun o i j =>
    Fin'.layer h1 (fun _ _ _ => h.c2w _) (h.c2b _) i j
  have h3 : ∀ q, Fin' (A.hid1 n q) := fun q => Fin'.dense3 (fun _ => h.f1w _) h2 (h.f1b _)
  have h4 : ∀ d, Fin' (A.hid2 n d) := fun d => Fin'.dense (fun _ => h.f2w _) h3 (h.f2b _)
  exact Fin'.sum _ _ fun d => (h4 d).mul (h.gw _)

end Args

end Cert.Val

end
-- ==== Proof.KernelHead.lean ====
/- The kernel's dense layers, gate, experts and output for one block of samples, read at an index: the network's mathematics. -/
module

public import proofs.«01_k».proof.Proof.KernelConv
public import proofs.«01_k».proof.Proof.Net

@[expose] public section

noncomputable section

namespace Cert.Val

open Cert.KernelIdeal Cert.KernelIdeal.Gen
open Idealize.ShloMosaic Idealize.ShloMosaic.ValueIdx

theorem biased_apply {M : ℕ} (hM : M ≠ 1) {hc : (⟨2, ![M, 1]⟩ : Shape).ShapeCasts ⟨2, ![M, 1]⟩} {hb : (⟨2, ![M, 1]⟩ : Shape).Broadcasts ⟨2, ![M, 256]⟩}
    (u : FVec Ideal ⟨2, ![M, 256]⟩ .f32) (b : FVec Ideal ⟨2, ![M, 1]⟩ .f32) (q : Fin M) (n : Fin 256) :
    biased hc hb u b (ix2 q n) = u (ix2 q n) + b (ix2 q 0) :=
  congrArg (u (ix2 q n) + ·) (column_apply hM b q n)

theorem relu_apply {M : ℕ} (u : FVec Ideal ⟨2, ![M, 256]⟩ .f32) (i) : relu u i = max (u i) 0 :=
  congrArg (max (u i)) Ideal.ofBits_zero_f32

/-- A row of two broadcast down a column's extent. -/
theorem rowcast_apply {M : ℕ} (v : FVec Ideal S1x256 .f32) (h : S1x256.Broadcasts ⟨2, ![M, 256]⟩) (q : Fin M) (n : Fin 256) :
    broadcastTo ⟨2, ![M, 256]⟩ v h (ix2 q n) = v (ix2 0 n) :=
  broadcastTo_apply v h (ix2 q n) (ix2 0 n) fun a => match a with
    | ⟨0, _⟩ => rfl
    | ⟨1, _⟩ => rfl

theorem unflat_apply (v : FVec Ideal S256 .f32) (n : Fin 256) : shapeCast S1x256 v shapeCasts_S256_S1x256 (ix2 0 n) = v (ix1 n) :=
  shapeCast_apply v shapeCasts_S256_S1x256 (ix2 0 n) (ix1 n) (by
    rw [Shape.rowMajor_val_two]; show _ = 0 * 256 + n.val; rw [Shape.rowMajor_val_one]; show n.val = _; omega)

/-- The gate's softmax over two rows of logits. -/
theorem softmax_apply (l : FVec Ideal S2x256 .f32) (L : Fin 2 → EReal) (n : Fin 256) (hl : ∀ e, l (ix2 e n) = L e)
    (mx sm : FVec Ideal S256 .f32)
    (hm : mx = multiReduction .maximumf [0] S256 l 0xFF800000#32 reduces_S2x256_S256 (.inl rfl) rfl)
    (hs : sm = multiReduction .add [0] S256 (exp (subf l (broadcastTo S2x256 (shapeCast S1x256 mx shapeCasts_S256_S1x256) broadcasts_S1x256_S2x256)))
      0x00000000#32 reduces_S2x256_S256 (.inl rfl) rfl) (e : Fin 2) :
    divf (exp (subf l (broadcastTo S2x256 (shapeCast S1x256 mx shapeCasts_S256_S1x256) broadcasts_S1x256_S2x256)))
      (broadcastTo S2x256 (shapeCast S1x256 sm shapeCasts_S256_S1x256) broadcasts_S1x256_S2x256) (ix2 e n) = gate L e := by
  have hmx : mx (ix1 n) = max (L 0) (L 1) := by
    rw [hm]
    refine (Ideal.multiReduction_maximumf_single l 0xFF800000#32 reduces_S2x256_S256 (.inl rfl) rfl (ix1 n)).trans ?_
    have hf : ∀ f : Fin 2 → EReal, (Finset.univ : Finset (Fin 2)).fold max (FloatOps.ofBits (F := Ideal) .f32 0xFF800000#32) f = max (f 0) (f 1) := fun f => by
      rw [show FloatOps.ofBits (F := Ideal) .f32 0xFF800000#32 = (⊥ : EReal) from by
          show Ideal.ofBits .f32 0xFF800000#32 = ⊥
          simp [Ideal.ofBits, Ideal.ieee],
        show (Finset.univ : Finset (Fin 2)) = {0, 1} from by decide, Finset.fold_insert (by decide),
        Finset.fold_singleton, max_bot_right]
    exact (hf _).trans (congrArg₂ max ((congrArg l (eq_ix2 _)).trans (hl 0)) ((congrArg l (eq_ix2 _)).trans (hl 1)))
  have hx : ∀ e, exp (subf l (broadcastTo S2x256 (shapeCast S1x256 mx shapeCasts_S256_S1x256) broadcasts_S1x256_S2x256)) (ix2 e n) = expo L e := fun e => by
    show Ideal.exp (l (ix2 e n) - broadcastTo S2x256 (shapeCast S1x256 mx shapeCasts_S256_S1x256) broadcasts_S1x256_S2x256 (ix2 e n)) = _
    rw [rowcast_apply (M := 2), unflat_apply, hmx, hl]
    rfl
  have hsm : sm (ix1 n) = expo L 0 + expo L 1 := by
    rw [hs]
    refine (Ideal.multiReduction_add_single _ 0x00000000#32 reduces_S2x256_S256 (.inl rfl) rfl (ix1 n)).trans ?_
    refine (Fin.sum_univ_two (fun k : Fin 2 => _)).trans (congrArg₂ (· + ·) ?_ ?_)
    · exact (congrArg _ (eq_ix2 _)).trans (hx 0)
    · exact (congrArg _ (eq_ix2 _)).trans (hx 1)
  show Ideal.div (exp (subf l (broadcastTo S2x256 (shapeCast S1x256 mx shapeCasts_S256_S1x256) broadcasts_S1x256_S2x256)) (ix2 e n))
    (broadcastTo S2x256 (shapeCast S1x256 sm shapeCasts_S256_S1x256) broadcasts_S1x256_S2x256 (ix2 e n)) = _
  rw [hx, rowcast_apply (M := 2), unflat_apply, hsm]
  rfl

/-- The first two dense layers: the flattened image is stored by rows of the pooled image. -/
theorem dense12_apply (h : Fin 14 → FVec Ideal S96x256 .bf16) (w : FVec Ideal S160x480 .bf16) (b : FVec Ideal S80x1 .f32)
    (f1 : FVec Ideal S120x400 .bf16) (c1 : FVec Ideal S120x1 .f32) (f2 : FVec Ideal S84x120 .bf16)
    (n : Fin 256) (Y : Fin 16 → Fin 5 → Fin 5 → EReal)
    (hY : ∀ (i : Fin 5) (o : Fin 16) (j : Fin 5), row2 h w b i (ix2 ⟨o.val * 5 + j.val, by omega⟩ n) = Y o i j)
    (F1 : Fin 120 → Fin 400 → EReal)
    (hF : ∀ (q : Fin 120) (i : Fin 5) (o : Fin 16) (j : Fin 5),
      f1 (ix2 q ⟨i.val * 80 + (o.val * 5 + j.val), by omega⟩) = F1 q ⟨o.val * 25 + i.val * 5 + j.val, by omega⟩)
    (d : Fin 84) :
    dense12 h w b f1 c1 f2 (ix2 d n) = ∑ q, f2 (ix2 d q) * dense3 (F1 q) Y (c1 (ix2 q 0)) := by
  have hcat : ∀ (i : Fin 5) (q : Fin 80) (k : Fin 400), k.val = i.val * 80 + q.val →
      concatenate S400x256 0 (List.ofFn fun j : Fin 5 => (⟨S80x256, row2 h w b j⟩ : (s : Shape) × (s.Idx → Ideal .bf16)))
        concatenates_S80x256_S80x256_S80x256_S80x256_S80x256_S400x256_d0 (ix2 k n) = row2 h w b i (ix2 q n) := by
    intro i q k hk
    refine concatenate_ofFn_apply (t := S400x256) (s₁ := S80x256) 0 (fun j : Fin 5 => row2 h w b j) _
      rfl 80 rfl (ix2 k n) i (by show k.val / 80 = _; omega) (ix2 q n) (by show q.val = k.val % 80; omega) fun b hb => ?_
    match b with
    | ⟨0, _⟩ => exact absurd rfl hb
    | ⟨1, _⟩ => rfl
  unfold dense12
  rw [shapeCast_self, shapeCast_self]
  refine (mm_apply f2 _ d n).trans (Finset.sum_congr rfl fun q _ => congrArg (f2 (ix2 d q) * ·) ?_)
  refine (relu_apply (M := 120) _ (ix2 q n)).trans ((congrArg (max · (0 : EReal)) ((biased_apply (M := 120) (by decide) _ c1 q n).trans
    (congrArg (· + c1 (ix2 q 0)) ((mm_apply f1 _ q n).trans ?_)))))
  rw [sum_blk (a := 5) (b := 80) rfl]
  refine Eq.trans (Finset.sum_congr rfl fun i _ => ?_) Finset.sum_comm
  rw [sum_blk (a := 16) (b := 5) rfl]
  exact Finset.sum_congr rfl fun o _ => Finset.sum_congr rfl fun j _ =>
    congrArg₂ (· * ·) (hF q i o j) ((hcat i ⟨o.val * 5 + j.val, by omega⟩ _ rfl).trans (hY i o j))

section
variable (u : FVec Ideal S84x256 .f32) (b : Vec Ideal S84x1 .f32) (g : Vec Ideal S2x84 .bf16) (n : Fin 256)

theorem pay66_apply (d : Fin 84) : k0_pay66 u b (ix2 d n) = max (u (ix2 d n) + b (ix2 d 0)) 0 :=
  (relu_apply (M := 84) (biased shapeCasts_S84x1_S84x1 broadcasts_S84x1_S84x256 u b) (ix2 d n)).trans
    (congrArg (max · (0 : EReal)) (biased_apply (M := 84) (by decide) u b d n))

theorem pay67_apply (L : Fin 2 → EReal) (hL : ∀ e, ∑ d : Fin 84, g (ix2 e d) * max (u (ix2 d n) + b (ix2 d 0)) 0 = L e) (e : Fin 2) :
    k0_pay67 u b g (ix2 e n) = gate L e := by
  refine softmax_apply (matmul dot_S2x84_S84x256_S2x256_1_0_0_1_n_n none (shapeCast S2x84 g shapeCasts_S2x84_S2x84) (k0_pay66 u b)
    (constant S2x256 .f32 0x00000000#32)) L n (fun e => ?_) _ _ rfl rfl e
  rw [shapeCast_self]
  refine (mm_apply (M := 2) (K := 84) (N := 256) g (k0_pay66 u b) e n).trans ?_
  exact (Finset.sum_congr rfl fun d _ => congrArg (g (ix2 e d) * ·) (pay66_apply u b n d)).trans (hL e)

/-- The gate's weight spread over the experts' hidden rows: the first expert's below the middle, the second's from it on. -/
theorem spread_apply (v : FVec Ideal S2x256 .f32) (e : Fin 2) (k : Fin 2048) (r : Fin 4096) (hr : r.val = e.val * 2048 + k.val) :
    select (cmpi .slt (iota .tc S4096x256 32 [0] iota_S4096x256_d0_w32) (broadcast S4096x256 2048#32))
      (broadcastTo S4096x256 (shapeCast S1x256 (extractStridedSlice S1x256 ![0, 0] v slices_S2x256_o0_0_S1x256) shapeCasts_S1x256_S1x256) broadcasts_S1x256_S4096x256)
      (broadcastTo S4096x256 (shapeCast S1x256 (extractStridedSlice S1x256 ![1, 0] v slices_S2x256_o1_0_S1x256) shapeCasts_S1x256_S1x256) broadcasts_S1x256_S4096x256)
      (ix2 r n) = v (ix2 e n) := by
  have hc : ∀ r : Fin 4096, (IntOp.cmpi .slt (BitVec.ofNat 32 (0 * 4096 + r.val)) 2048#32 = 1) ↔ r.val < 2048 := by decide +kernel
  have h0 := extractStridedSlice_apply (t := S1x256) ![0, 0] v slices_S2x256_o0_0_S1x256 (ix2 0 n) (ix2 0 n) fun a => match a with
    | ⟨0, _⟩ => rfl
    | ⟨1, _⟩ => (Nat.zero_add _).symm
  have h1 := extractStridedSlice_apply (t := S1x256) ![1, 0] v slices_S2x256_o1_0_S1x256 (ix2 0 n) (ix2 1 n) fun a => match a with
    | ⟨0, _⟩ => rfl
    | ⟨1, _⟩ => (Nat.zero_add _).symm
  rw [shapeCast_self, shapeCast_self]
  show (if IntOp.cmpi .slt (BitVec.ofNat 32 (0 * 4096 + r.val)) 2048#32 = 1 then
    broadcastTo S4096x256 (extractStridedSlice S1x256 ![0, 0] v slices_S2x256_o0_0_S1x256) broadcasts_S1x256_S4096x256 (ix2 r n)
    else broadcastTo S4096x256 (extractStridedSlice S1x256 ![1, 0] v slices_S2x256_o1_0_S1x256) broadcasts_S1x256_S4096x256 (ix2 r n)) = _
  rw [rowcast_apply (M := 4096), rowcast_apply (M := 4096), h0, h1]
  rcases (show e.val = 0 ∨ e.val = 1 by omega) with he | he
  · rw [if_pos ((hc r).2 (by omega)), show e = 0 from Fin.ext he]
  · rw [if_neg fun h => absurd ((hc r).1 h) (by omega), show e = 1 from Fin.ext he]

theorem pay68_apply (L : Fin 2 → EReal) (H : Fin 84 → EReal) (hH : ∀ d, max (u (ix2 d n) + b (ix2 d 0)) 0 = H d)
    (hL : ∀ e, ∑ d : Fin 84, g (ix2 e d) * H d = L e)
    (w1 : Vec Ideal S4096x84 .bf16) (b1 : Vec Ideal S4096x1 .f32) (w2 : Vec Ideal S84x4096 .bf16)
    (W1 : Fin 2 → Fin 84 → Fin 2048 → EReal) (B1 : Fin 2 → Fin 2048 → EReal) (W2 : Fin 2 → Fin 2048 → Fin 84 → EReal)
    (h1 : ∀ (e : Fin 2) (k : Fin 2048) d, w1 (ix2 ⟨e.val * 2048 + k.val, by omega⟩ d) = W1 e d k)
    (hb1 : ∀ (e : Fin 2) (k : Fin 2048), b1 (ix2 ⟨e.val * 2048 + k.val, by omega⟩ 0) = B1 e k)
    (h2 : ∀ (e : Fin 2) (k : Fin 2048) d, w2 (ix2 d ⟨e.val * 2048 + k.val, by omega⟩) = W2 e k d) (d : Fin 84) :
    k0_pay68 u b g w1 b1 w2 (ix2 d n)
      = ∑ e, ∑ k, W2 e k d * (dense (fun d => W1 e d k) H (B1 e k) * gate L e) := by
  have hg : ∀ e, k0_pay67 u b g (ix2 e n) = gate L e := pay67_apply u b g n L (by simpa only [hH] using hL)
  unfold k0_pay68
  simp only [shapeCast_self w1, shapeCast_self w2]
  refine (mm_apply (M := 84) (K := 4096) (N := 256) w2 _ d n).trans ?_
  rw [sum_blk (a := 2) (b := 2048) rfl]
  refine Finset.sum_congr rfl fun e _ => Finset.sum_congr rfl fun k _ => congrArg₂ (· * ·) (h2 e k d) ?_
  refine Eq.trans (b := (_ : EReal) * (_ : EReal)) rfl (congrArg₂ (· * ·) ?_ ?_)
  · refine (relu_apply (M := 4096) (biased shapeCasts_S4096x1_S4096x1 broadcasts_S4096x1_S4096x256 _ b1) (ix2 _ n)).trans
      (congrArg (max · (0 : EReal)) ((biased_apply (M := 4096) (by decide) _ b1 _ n).trans (congrArg₂ (· + ·) ?_ (hb1 e k))))
    refine (mm_apply (M := 4096) (K := 84) (N := 256) w1 (k0_pay66 u b) _ n).trans ?_
    exact Finset.sum_congr rfl fun d _ => congrArg₂ (· * ·) (h1 e k d) ((pay66_apply u b n d).trans (hH d))
  · exact (spread_apply n (k0_pay67 u b g) e k _ rfl).trans (hg e)

theorem pay1_apply (v : FVec Ideal S2x256 .f32) (p : FVec Ideal S84x256 .f32) (b2 : Vec Ideal S84x2 .f32) (f3 : Vec Ideal S10x84 .f32)
    (c3 : Vec Ideal S10x1 .f32) (j : Fin 10) :
    k0_pay1 v p b2 f3 c3 (ix2 j n)
      = (∑ d : Fin 84, f3 (ix2 j d) * (p (ix2 d n) + ∑ e : Fin 2, b2 (ix2 d e) * v (ix2 e n))) + c3 (ix2 j 0) := by
  unfold k0_pay1
  simp only [shapeCast_self b2]
  refine (biased_apply (M := 10) (by decide) (hc := shapeCasts_S10x1_S10x1) (hb := broadcasts_S10x1_S10x256) _ c3 j n).trans
    (congrArg (· + c3 (ix2 j 0)) ?_)
  refine (mm_apply (M := 10) (K := 84) (N := 256) f3 _ j n).trans (Finset.sum_congr rfl fun d _ => congrArg (f3 (ix2 j d) * ·) ?_)
  exact congrArg (p (ix2 d n) + ·) (mm_apply (M := 84) (K := 2) (N := 256) b2 v d n)
end

/-- What the region's weight arrays hold, each packed the kernel's way. -/
structure Packed (A : Args) (x1 : Vec Ideal S192x480 .bf16) (x2 : Vec Ideal S96x1 .f32)
    (x3 : Vec Ideal S160x480 .bf16) (x4 : Vec Ideal S80x1 .f32) (x5 : Vec Ideal S120x400 .bf16) (x6 : Vec Ideal S120x1 .f32)
    (x7 : Vec Ideal S84x120 .bf16) (x8 : Vec Ideal S84x1 .f32) (x9 : Vec Ideal S2x84 .bf16) (x10 : Vec Ideal S4096x84 .bf16)
    (x11 : Vec Ideal S4096x1 .f32) (x12 : Vec Ideal S84x4096 .bf16) (x13 : Vec Ideal S84x2 .f32) (x14 : Vec Ideal S10x84 .f32)
    (x15 : Vec Ideal S10x1 .f32) : Prop where
  c1w : Packed1 x1 fun o c d e => A.c1w (ix4 o c d e)
  c1b : ∀ (o : Fin 6) (j : Fin 14), x2 (ix2 ⟨o.val * 14 + j.val, by omega⟩ 0) = A.c1b (ix1 o)
  c2w : Packed2 x3 fun o c d e => A.c2w (ix4 o c d e)
  c2b : ∀ (o : Fin 16) (j : Fin 5), x4 (ix2 ⟨o.val * 5 + j.val, by omega⟩ 0) = A.c2b (ix1 o)
  f1w : ∀ (q : Fin 120) (i : Fin 5) (o : Fin 16) (j : Fin 5),
      x5 (ix2 q ⟨i.val * 80 + (o.val * 5 + j.val), by omega⟩) = A.f1w (ix2 q ⟨o.val * 25 + i.val * 5 + j.val, by omega⟩)
  f1b : ∀ q, x6 (ix2 q 0) = A.f1b (ix1 q)
  f2w : ∀ d q, x7 (ix2 d q) = A.f2w (ix2 d q)
  f2b : ∀ d, x8 (ix2 d 0) = A.f2b (ix1 d)
  gw : ∀ e d, x9 (ix2 e d) = A.gw (ix2 d e)
  w1 : ∀ (e : Fin 2) (k : Fin 2048) d, x10 (ix2 ⟨e.val * 2048 + k.val, by omega⟩ d) = A.w1 (ix3 e d k)
  b1 : ∀ (e : Fin 2) (k : Fin 2048), x11 (ix2 ⟨e.val * 2048 + k.val, by omega⟩ 0) = A.b1 (ix2 e k)
  w2 : ∀ (e : Fin 2) (k : Fin 2048) d, x12 (ix2 d ⟨e.val * 2048 + k.val, by omega⟩) = A.w2 (ix3 e k d)
  b2 : ∀ d e, x13 (ix2 d e) = A.b2 (ix2 e d)
  f3w : ∀ j d, x14 (ix2 j d) = A.f3w (ix2 j d)
  f3b : ∀ j, x15 (ix2 j 0) = A.f3b (ix1 j)

/-- A grid point's output block at a sample: the network's output there. -/
theorem block_apply (A : Args) (hA : A.Finite) (x0 : Vec Ideal S3072x256 .f32) (x1 : Vec Ideal S192x480 .bf16) (x2 : Vec Ideal S96x1 .f32)
    (x3 : Vec Ideal S160x480 .bf16) (x4 : Vec Ideal S80x1 .f32) (x5 : Vec Ideal S120x400 .bf16) (x6 : Vec Ideal S120x1 .f32)
    (x7 : Vec Ideal S84x120 .bf16) (x8 : Vec Ideal S84x1 .f32) (x9 : Vec Ideal S2x84 .bf16) (x10 : Vec Ideal S4096x84 .bf16)
    (x11 : Vec Ideal S4096x1 .f32) (x12 : Vec Ideal S84x4096 .bf16) (x13 : Vec Ideal S84x2 .f32) (x14 : Vec Ideal S10x84 .f32)
    (x15 : Vec Ideal S10x1 .f32) (P : Packed A x1 x2 x3 x4 x5 x6 x7 x8 x9 x10 x11 x12 x13 x14 x15) (N : Fin 4096) (n : Fin 256)
    (hx : ∀ (c : Fin 3) (y z : Fin 32), x0 (ix2 ⟨c.val * 1024 + (y.val * 32 + z.val), by omega⟩ n) = A.x (ix4 N c y z)) (j : Fin 10) :
    out0_16 x0 x1 x2 x3 x4 x5 x6 x7 x8 x9 x10 x11 x12 x13 x14 x15 (ix2 j n) = A.out N j := by
  have off : (![0, 0] : Fin 2 → ℕ) = fun _ => 0 := by funext a; match a with | 0 => rfl | 1 => rfl
  unfold out0_16
  rw [View.canon_unit_zero off, pay83_eq]
  have l {a b : ℕ} {φ : EltTy} (x : Vec Ideal (⟨2, ![a, b]⟩ : Shape) φ) (i : ∀ k, (![0, 0] : Fin 2 → ℕ) k + (⟨2, ![a, b]⟩ : Shape).size k ≤ (⟨2, ![a, b]⟩ : Shape).size k) :
      View.ld x (Rect.unit (s := ⟨2, ![a, b]⟩) ![0, 0] (⟨2, ![a, b]⟩ : Shape).size i) = x := View.ld_unit_zero off i x
  rw [l x0, l x1, l x2, l x3, l x4, l x5, l x6, l x7, l x8, l x9, l x10, l x11, l x12, l x13, l x14, l x15]
  have hi2 : ∀ (i : Fin 5) (o : Fin 16) (j : Fin 5),
      row2 (row1 (k0_pay2 x0) (k0_pay3 x1) x2) (k0_pay4 x3) x4 i (ix2 ⟨o.val * 5 + j.val, by omega⟩ n) = A.img2 N o i j := by
    refine row2_apply _ _ (fun o c d e => A.c2w (ix4 o c d e)) ?_ x4 (fun o => A.c2b (ix1 o)) P.c2b (A.img1 N) n fun o i j => ?_
    · unfold k0_pay4; rw [shapeCast_self]; exact P.c2w
    · refine row1_apply _ _ (fun o c d e => A.c1w (ix4 o c d e)) ?_ x2 (fun o => A.c1b (ix1 o)) P.c1b
        (fun c y z => A.x (ix4 N c y z)) n ?_ i o j
      · unfold k0_pay3; rw [shapeCast_self]; exact P.c1w
      · intro c y z
        refine Eq.trans ?_ (hx c y z)
        unfold k0_pay2
        rw [shapeCast_self]
        rfl
  generalize row1 (k0_pay2 x0) (k0_pay3 x1) x2 = h at hi2 ⊢
  generalize k0_pay4 x3 = w at hi2 ⊢
  have hu : ∀ d, dense12 h w x4 x5 x6 x7 (ix2 d n) = ∑ q, A.f2w (ix2 d q) * A.hid1 N q := fun d => by
    refine (dense12_apply h w x4 x5 x6 x7 n (A.img2 N) hi2 (fun q k => A.f1w (ix2 q k)) P.f1w d).trans ?_
    exact Finset.sum_congr rfl fun q _ => congrArg₂ (· * ·) (P.f2w d q) (by rw [P.f1b]; rfl)
  generalize dense12 h w x4 x5 x6 x7 = u at hu ⊢
  have hH : ∀ d, max (u (ix2 d n) + x8 (ix2 d 0)) 0 = A.hid2 N d := fun d => by rw [hu, P.f2b]; rfl
  have hL : ∀ e, ∑ d : Fin 84, x9 (ix2 e d) * A.hid2 N d = A.logit N e := fun e =>
    Finset.sum_congr rfl fun d _ => by rw [P.gw, mul_comm]
  rw [pay1_apply]
  refine congrArg₂ (· + ·) (Finset.sum_congr rfl fun d _ => ?_) (P.f3b j)
  rw [P.f3w, pay68_apply u x8 x9 n (A.logit N) (A.hid2 N) hH hL x10 x11 x12 _ _ _ P.w1 P.b1 P.w2 d, mul_comm]
  refine congrArg (· * A.f3w (ix2 j d)) ?_
  refine Eq.trans (congrArg (_ + ·) (Finset.sum_congr rfl fun e _ => congrArg₂ (· * ·) (P.b2 d e)
    (pay67_apply u x8 x9 n (A.logit N) (by simpa only [hH] using hL) e))) ?_
  exact moe (hA.logit N) (fun e k => dense (fun d => A.w1 (ix3 e d k)) (A.hid2 N) (A.b1 (ix2 e k))) (fun e k => A.w2 (ix3 e k d))
    (fun e => A.b2 (ix2 e d))

end Cert.Val
-- ==== Proof.HostPack.lean ====
/- The kernel's host lines: the packed arrays the region reads, at an index. -/
module

public import proofs.«01_k».proof.Proof.KernelHead
public import Idealize.ShloMosaic.Lib.KernelVsHost
public import Idealize.ShloMosaic.Lib.ValueIdxCoords
public import Idealize.ShloMosaic.Lib.ValueIdxRank6

@[expose] public section

noncomputable section

namespace Cert.Val

open Cert.KernelIdeal Cert.KernelIdeal.Gen
open Idealize.ShloMosaic Idealize.ShloMosaic.ValueIdx

/-! ### Positions in reading order -/

theorem pos1 {a : ℕ} (i : Fin a) : ((⟨1, ![a]⟩ : Shape).rowMajor (ix1 i)).val = i.val := Shape.rowMajor_val_one _
theorem pos2 {a b : ℕ} (i : Fin a) (j : Fin b) : ((⟨2, ![a, b]⟩ : Shape).rowMajor (ix2 i j)).val = i.val * b + j.val := Shape.rowMajor_val_two _
theorem pos3 {a b c : ℕ} (i : Fin a) (j : Fin b) (k : Fin c) :
    ((⟨3, ![a, b, c]⟩ : Shape).rowMajor (ix3 i j k)).val = (i.val * b + j.val) * c + k.val := Shape.rowMajor_val_three _
theorem pos4 {a b c d : ℕ} (i : Fin a) (j : Fin b) (k : Fin c) (l : Fin d) :
    ((⟨4, ![a, b, c, d]⟩ : Shape).rowMajor (ix4 i j k l)).val = ((i.val * b + j.val) * c + k.val) * d + l.val := Shape.rowMajor_val_four _
theorem pos6 {a b c d e f : ℕ} (i : Fin a) (j : Fin b) (k : Fin c) (l : Fin d) (m : Fin e) (n : Fin f) :
    ((⟨6, ![a, b, c, d, e, f]⟩ : Shape).rowMajor (ix6 i j k l m n)).val = ((((i.val * b + j.val) * c + k.val) * d + l.val) * e + m.val) * f + n.val :=
  Shape.rowMajor_val_six _

/-! ### The placement tables -/

theorem table1 : ∀ (j : Fin 14) (p : Fin 2) (z : Fin 32) (e : Fin 5),
    lit0t (((j.val * 2 + p.val) * 32 + z.val) * 5 + e.val) = if z.val = 2 * j.val + p.val + e.val then 0x3F800000#32 else 0x00000000#32 := by
  decide +kernel

theorem table2 : ∀ (j : Fin 5) (p : Fin 2) (z : Fin 14) (e : Fin 5),
    lit1t (((j.val * 2 + p.val) * 14 + z.val) * 5 + e.val) = if z.val = 2 * j.val + p.val + e.val then 0x3F800000#32 else 0x00000000#32 := by
  decide +kernel

theorem ofBits_one : FloatOps.ofBits (F := Ideal) .f32 0x3F800000#32 = (1 : EReal) := by
  show Ideal.ofBits .f32 0x3F800000#32 = 1
  simp [Ideal.ofBits, Ideal.ieee, -EReal.coe_mul]; norm_num

theorem ofBits_ite (q : Prop) [Decidable q] :
    FloatOps.ofBits (F := Ideal) .f32 (if q then 0x3F800000#32 else 0x00000000#32) = if q then (1 : EReal) else 0 := by
  split
  · exact ofBits_one
  · exact Ideal.ofBits_zero_f32

theorem table1_apply (j : Fin 14) (p : Fin 2) (z : Fin 32) (e : Fin 5) :
    FloatOps.ofBits (F := Ideal) .f32 (lit0 (S14x2x32x5.rowMajor (ix4 j p z e))) = if z.val = 2 * j.val + p.val + e.val then (1 : EReal) else 0 := by
  have h : (S14x2x32x5.rowMajor (ix4 j p z e)).val = ((j.val * 2 + p.val) * 32 + z.val) * 5 + e.val := by
    rw [Shape.rowMajor_val_four]; rfl
  rw [← ofBits_ite, ← table1, ← h]

theorem table2_apply (j : Fin 5) (p : Fin 2) (z : Fin 14) (e : Fin 5) :
    FloatOps.ofBits (F := Ideal) .f32 (lit1 (S5x2x14x5.rowMajor (ix4 j p z e))) = if z.val = 2 * j.val + p.val + e.val then (1 : EReal) else 0 := by
  have h : (S5x2x14x5.rowMajor (ix4 j p z e)).val = ((j.val * 2 + p.val) * 14 + z.val) * 5 + e.val := by
    rw [Shape.rowMajor_val_four]; rfl
  rw [← ofBits_ite, ← table2, ← h]

/-! ### A product contracting the last axis of two rank-four arrays -/

/-- Both operands' last axes contracted, their other axes kept in order. -/
def lastDims (A B C D E G K : ℕ) (wf : DotDims.WF ⟨4, ![A, B, C, K]⟩ ⟨4, ![D, E, G, K]⟩ ⟨6, ![A, B, C, D, E, G]⟩ [3] [3] [0, 1, 2] [0, 1, 2] [] []) :
    DotDims ⟨4, ![A, B, C, K]⟩ ⟨4, ![D, E, G, K]⟩ ⟨6, ![A, B, C, D, E, G]⟩ where
  lhsContracting := [3]
  rhsContracting := [3]
  lhsNonContracting := [0, 1, 2]
  rhsNonContracting := [0, 1, 2]
  lhsBatch := []
  rhsBatch := []
  wf := wf

def lastContr {A B C D E G K : ℕ} (wf : DotDims.WF ⟨4, ![A, B, C, K]⟩ ⟨4, ![D, E, G, K]⟩ ⟨6, ![A, B, C, D, E, G]⟩ [3] [3] [0, 1, 2] [0, 1, 2] [] []) :
    (lastDims A B C D E G K wf).contr.Idx ≃ Fin K where
  toFun q := q ⟨0, show 0 < 1 by decide⟩
  invFun k := fun a => match a with
    | ⟨0, _⟩ => k
  left_inv q := by
    funext a
    match a with
    | ⟨0, _⟩ => rfl
  right_inv _ := rfl

theorem lastDot_apply {A B C D E G K : ℕ} (wf : DotDims.WF ⟨4, ![A, B, C, K]⟩ ⟨4, ![D, E, G, K]⟩ ⟨6, ![A, B, C, D, E, G]⟩ [3] [3] [0, 1, 2] [0, 1, 2] [] [])
    (x : FVec Ideal ⟨4, ![A, B, C, K]⟩ .f32) (y : FVec Ideal ⟨4, ![D, E, G, K]⟩ .f32)
    (a : Fin A) (b : Fin B) (c : Fin C) (d : Fin D) (e : Fin E) (g : Fin G) :
    Host.dotGeneral (F := Ideal) (φ₁ := .f32) (φ₂ := .f32) (lastDims A B C D E G K wf) none x y (ix6 a b c d e g)
      = ∑ k, x (ix4 a b c k) * y (ix4 d e g k) := by
  simp only [Host.dotGeneral]
  rw [Ideal.dotGeneral_apply]
  refine Fintype.sum_equiv (lastContr wf) _ _ fun q => ?_
  congr 1
  · refine congrArg x (funext fun a => Fin.ext ?_)
    match a with
    | ⟨0, _⟩ => rfl
    | ⟨1, _⟩ => rfl
    | ⟨2, _⟩ => rfl
    | ⟨3, _⟩ => rfl
  · refine congrArg y (funext fun a => Fin.ext ?_)
    match a with
    | ⟨0, _⟩ => rfl
    | ⟨1, _⟩ => rfl
    | ⟨2, _⟩ => rfl
    | ⟨3, _⟩ => rfl

/-- The padding value is zero. -/
theorem padValue (i) : sitofp (F := Ideal) .f32 (constantI S_ 32 0#32) i = (0 : EReal) := by
  show ((BitVec.toInt (0#32) : ℝ) : EReal) = 0
  simp

/-! ### The convolutions' weights -/

/-- The first layer's weights as the host packs them. -/
def packM1 (w : FVec Ideal S6x3x5x5 .f32) : FVec Ideal S192x480 .f32 :=
  shapeCast S192x480 (pad S2x96x480 ![0, 0, 0] ![0, 12, 0] ![0, 0, 0]
    (shapeCast S2x84x480 (transpose S2x6x14x3x5x32 [1, 3, 0, 4, 5, 2]
      (Host.dotGeneral dot_S14x2x32x5_S6x3x5x5_S14x2x32x6x3x5_3_3_012_012_n_n none (fun i => FloatOps.ofBits .f32 (lit0 (S14x2x32x5.rowMajor i))) w)
      transposes_S14x2x32x6x3x5_S2x6x14x3x5x32_1_3_0_4_5_2) shapeCasts_S2x6x14x3x5x32_S2x84x480)
    (sitofp .f32 (constantI S_ 32 0#32)) pads_S2x84x480_S2x96x480_000_0120_000 h_S_) shapeCasts_S2x96x480_S192x480

def hostM1 (w : FVec Ideal S6x3x5x5 .f32) : FVec Ideal S192x480 .bf16 := truncf .bf16 (packM1 w) bitsLt_bf16_f32

theorem hostM1_packed (w : FVec Ideal S6x3x5x5 .f32) : Packed1 (hostM1 w) fun o c d e => w (ix4 o c d e) := by
  intro p o j c d z
  show packM1 w _ = _
  unfold packM1
  refine (shapeCast_apply (t := S192x480) _ shapeCasts_S2x96x480_S192x480 _
    (ix3 p ⟨o.val * 14 + j.val, by omega⟩ ⟨(c.val * 5 + d.val) * 32 + z.val, by omega⟩) (by
      rw [pos2, pos3])).trans ?_
  refine (pad_apply_of_inside _ _ _ _ _ pads_S2x84x480_S2x96x480_000_0120_000 h_S_ _
    (ix3 p ⟨o.val * 14 + j.val, by omega⟩ ⟨(c.val * 5 + d.val) * 32 + z.val, by omega⟩) fun a => match a with
      | ⟨0, _⟩ => by show p.val = 0 + p.val * (0 + 1); omega
      | ⟨1, _⟩ => by show o.val * 14 + j.val = 0 + (o.val * 14 + j.val) * (0 + 1); omega
      | ⟨2, _⟩ => by show (c.val * 5 + d.val) * 32 + z.val = 0 + ((c.val * 5 + d.val) * 32 + z.val) * (0 + 1); omega).trans ?_
  refine (shapeCast_apply (t := S2x84x480) _ shapeCasts_S2x6x14x3x5x32_S2x84x480 _ (ix6 p o j c d z) (by
      rw [pos6, pos3]
      dsimp only
      omega)).trans ?_
  refine (transpose_apply _ _ transposes_S14x2x32x6x3x5_S2x6x14x3x5x32_1_3_0_4_5_2 _ (ix6 j p z o c d) fun b => match b with
      | ⟨0, _⟩ => rfl
      | ⟨1, _⟩ => rfl
      | ⟨2, _⟩ => rfl
      | ⟨3, _⟩ => rfl
      | ⟨4, _⟩ => rfl
      | ⟨5, _⟩ => rfl).trans ?_
  refine (lastDot_apply _ _ w j p z o c d).trans (Finset.sum_congr rfl fun e _ => ?_)
  rw [table1_apply, mul_comm]

/-- The second layer's weights as the host packs them. -/
def packM2 (w : FVec Ideal S16x6x5x5 .f32) : FVec Ideal S160x480 .f32 :=
  shapeCast S160x480 (pad S2x80x5x96 ![0, 0, 0, 0] ![0, 0, 0, 12] ![0, 0, 0, 0]
    (shapeCast S2x80x5x84 (transpose S2x16x5x5x6x14 [1, 3, 0, 5, 4, 2]
      (Host.dotGeneral dot_S5x2x14x5_S16x6x5x5_S5x2x14x16x6x5_3_3_012_012_n_n none (fun i => FloatOps.ofBits .f32 (lit1 (S5x2x14x5.rowMajor i))) w)
      transposes_S5x2x14x16x6x5_S2x16x5x5x6x14_1_3_0_5_4_2) shapeCasts_S2x16x5x5x6x14_S2x80x5x84)
    (sitofp .f32 (constantI S_ 32 0#32)) pads_S2x80x5x84_S2x80x5x96_000_000_000_0120 h_S_) shapeCasts_S2x80x5x96_S160x480

def hostM2 (w : FVec Ideal S16x6x5x5 .f32) : FVec Ideal S160x480 .bf16 := truncf .bf16 (packM2 w) bitsLt_bf16_f32

theorem hostM2_packed (w : FVec Ideal S16x6x5x5 .f32) : Packed2 (hostM2 w) fun o c d e => w (ix4 o c d e) where
  band p o j c d z := by
    show packM2 w _ = _
    unfold packM2
    refine (shapeCast_apply (t := S160x480) _ shapeCasts_S2x80x5x96_S160x480 _
      (ix4 p ⟨o.val * 5 + j.val, by omega⟩ d ⟨c.val * 14 + z.val, by omega⟩) (by
        rw [pos2, pos4]
        dsimp only
        omega)).trans ?_
    refine (pad_apply_of_inside _ _ _ _ _ pads_S2x80x5x84_S2x80x5x96_000_000_000_0120 h_S_ _
      (ix4 p ⟨o.val * 5 + j.val, by omega⟩ d ⟨c.val * 14 + z.val, by omega⟩) fun a => match a with
        | ⟨0, _⟩ => by show p.val = 0 + p.val * (0 + 1); omega
        | ⟨1, _⟩ => by show o.val * 5 + j.val = 0 + (o.val * 5 + j.val) * (0 + 1); omega
        | ⟨2, _⟩ => by show d.val = 0 + d.val * (0 + 1); omega
        | ⟨3, _⟩ => by show c.val * 14 + z.val = 0 + (c.val * 14 + z.val) * (0 + 1); omega).trans ?_
    refine (shapeCast_apply (t := S2x80x5x84) _ shapeCasts_S2x16x5x5x6x14_S2x80x5x84 _ (ix6 p o j d c z) (by
        rw [pos6, pos4]
        dsimp only
        omega)).trans ?_
    refine (transpose_apply _ _ transposes_S5x2x14x16x6x5_S2x16x5x5x6x14_1_3_0_5_4_2 _ (ix6 j p z o c d) fun b => match b with
        | ⟨0, _⟩ => rfl
        | ⟨1, _⟩ => rfl
        | ⟨2, _⟩ => rfl
        | ⟨3, _⟩ => rfl
        | ⟨4, _⟩ => rfl
        | ⟨5, _⟩ => rfl).trans ?_
    refine (lastDot_apply _ _ w j p z o c d).trans (Finset.sum_congr rfl fun e _ => ?_)
    rw [table2_apply, mul_comm]
  zero r d q := by
    show packM2 w _ = _
    unfold packM2
    refine (shapeCast_apply (t := S160x480) _ shapeCasts_S2x80x5x96_S160x480 _
      (ix4 ⟨r.val / 80, by omega⟩ ⟨r.val % 80, by omega⟩ d ⟨84 + q.val, by omega⟩) (by
        rw [pos2, pos4]
        dsimp only
        omega)).trans ?_
    refine (pad_apply_of_not_inside _ _ _ _ _ pads_S2x80x5x84_S2x80x5x96_000_000_000_0120 h_S_ _ ⟨3, by decide⟩ ?_).trans (padValue _)
    show ¬(0 ≤ 84 + q.val ∧ (84 + q.val - 0) % (0 + 1) = 0 ∧ (84 + q.val - 0) / (0 + 1) < 84)
    rw [Nat.zero_add, Nat.div_one]
    omega

/-! ### The others -/

/-- A vector stood up as a column. -/
theorem column {M : ℕ} (hM : M ≠ 1) (h : (⟨1, ![M]⟩ : Shape).BroadcastsInDim ⟨2, ![M, 1]⟩ ![0]) (x : FVec Ideal ⟨1, ![M]⟩ .f32) (i : Fin M) :
    broadcastInDim ⟨2, ![M, 1]⟩ ![0] h x (ix2 i 0) = x (ix1 i) :=
  broadcastInDim_apply ![0] h x (ix2 i 0) (ix1 i) fun a => match a with
    | ⟨0, _⟩ => (if_neg hM).symm

/-- Each entry of a vector repeated, flattened. -/
theorem repeated {A B N : ℕ} (hA : A ≠ 1) (h : (⟨1, ![A]⟩ : Shape).BroadcastsInDim ⟨2, ![A, B]⟩ ![0])
    (hc : (⟨2, ![A, B]⟩ : Shape).ShapeCasts ⟨1, ![N]⟩) (x : FVec Ideal ⟨1, ![A]⟩ .f32) (i : Fin A) (j : Fin B) (k : Fin N) (hk : k.val = i.val * B + j.val) :
    shapeCast ⟨1, ![N]⟩ (broadcastInDim ⟨2, ![A, B]⟩ ![0] h x) hc (ix1 k) = x (ix1 i) := by
  refine (shapeCast_apply _ hc _ (ix2 i j) ?_).trans (broadcastInDim_apply ![0] h x (ix2 i j) (ix1 i) fun a => match a with
    | ⟨0, _⟩ => (if_neg hA).symm)
  rw [pos2, pos1]
  exact hk.symm

def hostB1 (b : FVec Ideal S6 .f32) : FVec Ideal S96x1 .f32 :=
  broadcastInDim S96x1 ![0] bcast_S96_S96x1_0 (pad S96 ![0] ![12] ![0]
    (shapeCast S84 (broadcastInDim S6x14 ![0] bcast_S6_S6x14_0 b) shapeCasts_S6x14_S84) (sitofp .f32 (constantI S_ 32 0#32)) pads_S84_S96_0120 h_S_)

theorem hostB1_apply (b : FVec Ideal S6 .f32) (o : Fin 6) (j : Fin 14) : hostB1 b (ix2 ⟨o.val * 14 + j.val, by omega⟩ 0) = b (ix1 o) := by
  refine (column (M := 96) (by decide) bcast_S96_S96x1_0 _ _).trans ?_
  refine (pad_apply_of_inside _ _ _ _ _ pads_S84_S96_0120 h_S_ _ (ix1 ⟨o.val * 14 + j.val, by omega⟩) fun a => match a with
    | ⟨0, _⟩ => by show o.val * 14 + j.val = 0 + (o.val * 14 + j.val) * (0 + 1); omega).trans ?_
  exact repeated (A := 6) (B := 14) (N := 84) (by decide) bcast_S6_S6x14_0 shapeCasts_S6x14_S84 b o j _ rfl

def hostB2 (b : FVec Ideal S16 .f32) : FVec Ideal S80x1 .f32 :=
  broadcastInDim S80x1 ![0] bcast_S80_S80x1_0 (shapeCast S80 (broadcastInDim S16x5 ![0] bcast_S16_S16x5_0 b) shapeCasts_S16x5_S80)

theorem hostB2_apply (b : FVec Ideal S16 .f32) (o : Fin 16) (j : Fin 5) : hostB2 b (ix2 ⟨o.val * 5 + j.val, by omega⟩ 0) = b (ix1 o) :=
  (column (M := 80) (by decide) bcast_S80_S80x1_0 _ _).trans
    (repeated (A := 16) (B := 5) (N := 80) (by decide) bcast_S16_S16x5_0 shapeCasts_S16x5_S80 b o j _ rfl)

def packF1 (w : FVec Ideal S120x400 .f32) : FVec Ideal S120x400 .f32 :=
  shapeCast S120x400 (transpose S120x5x16x5 [0, 2, 1, 3] (shapeCast S120x16x5x5 w shapeCasts_S120x400_S120x16x5x5)
    transposes_S120x16x5x5_S120x5x16x5_0_2_1_3) shapeCasts_S120x5x16x5_S120x400

def hostF1 (w : FVec Ideal S120x400 .f32) : FVec Ideal S120x400 .bf16 := truncf .bf16 (packF1 w) bitsLt_bf16_f32

theorem hostF1_apply (w : FVec Ideal S120x400 .f32) (q : Fin 120) (i : Fin 5) (o : Fin 16) (j : Fin 5) :
    hostF1 w (ix2 q ⟨i.val * 80 + (o.val * 5 + j.val), by omega⟩) = w (ix2 q ⟨o.val * 25 + i.val * 5 + j.val, by omega⟩) := by
  show packF1 w _ = _
  unfold packF1
  refine (shapeCast_apply (t := S120x400) _ shapeCasts_S120x5x16x5_S120x400 _ (ix4 q i o j) (by
    rw [pos2, pos4]
    dsimp only
    omega)).trans ?_
  refine (transpose_apply _ _ transposes_S120x16x5x5_S120x5x16x5_0_2_1_3 _ (ix4 q o i j) fun b => match b with
    | ⟨0, _⟩ => rfl
    | ⟨1, _⟩ => rfl
    | ⟨2, _⟩ => rfl
    | ⟨3, _⟩ => rfl).trans ?_
  exact shapeCast_apply w shapeCasts_S120x400_S120x16x5x5 _ _ (by
    rw [pos2, pos4]
    dsimp only
    omega)

/-- A matrix turned over. -/
theorem turned {A B : ℕ} (h : (⟨2, ![A, B]⟩ : Shape).Transposes [1, 0] ⟨2, ![B, A]⟩) (x : FVec Ideal ⟨2, ![A, B]⟩ .f32) (i : Fin A) (j : Fin B) :
    transpose ⟨2, ![B, A]⟩ [1, 0] x h (ix2 j i) = x (ix2 i j) :=
  transpose_apply _ x h (ix2 j i) (ix2 i j) fun b => match b with
    | ⟨0, _⟩ => rfl
    | ⟨1, _⟩ => rfl

def packW1 (w : FVec Ideal S2x84x2048 .f32) : FVec Ideal S4096x84 .f32 :=
  shapeCast S4096x84 (transpose S2x2048x84 [0, 2, 1] w transposes_S2x84x2048_S2x2048x84_0_2_1) shapeCasts_S2x2048x84_S4096x84

def hostW1 (w : FVec Ideal S2x84x2048 .f32) : FVec Ideal S4096x84 .bf16 := truncf .bf16 (packW1 w) bitsLt_bf16_f32

theorem hostW1_apply (w : FVec Ideal S2x84x2048 .f32) (e : Fin 2) (k : Fin 2048) (d : Fin 84) :
    hostW1 w (ix2 ⟨e.val * 2048 + k.val, by omega⟩ d) = w (ix3 e d k) := by
  show packW1 w _ = _
  unfold packW1
  refine (shapeCast_apply (t := S4096x84) _ shapeCasts_S2x2048x84_S4096x84 _ (ix3 e k d) (by
    rw [pos2, pos3])).trans ?_
  exact transpose_apply _ w transposes_S2x84x2048_S2x2048x84_0_2_1 _ (ix3 e d k) fun b => match b with
    | ⟨0, _⟩ => rfl
    | ⟨1, _⟩ => rfl
    | ⟨2, _⟩ => rfl

theorem hostB1e_apply (b : FVec Ideal S2x2048 .f32) (e : Fin 2) (k : Fin 2048) :
    shapeCast S4096x1 b shapeCasts_S2x2048_S4096x1 (ix2 ⟨e.val * 2048 + k.val, by omega⟩ 0) = b (ix2 e k) :=
  shapeCast_apply b shapeCasts_S2x2048_S4096x1 _ (ix2 e k) (by
    rw [pos2, pos2]
    dsimp only
    omega)

def packW2 (w : FVec Ideal S2x2048x84 .f32) : FVec Ideal S84x4096 .f32 :=
  shapeCast S84x4096 (transpose S84x2x2048 [2, 0, 1] w transposes_S2x2048x84_S84x2x2048_2_0_1) shapeCasts_S84x2x2048_S84x4096

def hostW2 (w : FVec Ideal S2x2048x84 .f32) : FVec Ideal S84x4096 .bf16 := truncf .bf16 (packW2 w) bitsLt_bf16_f32

theorem hostW2_apply (w : FVec Ideal S2x2048x84 .f32) (e : Fin 2) (k : Fin 2048) (d : Fin 84) :
    hostW2 w (ix2 d ⟨e.val * 2048 + k.val, by omega⟩) = w (ix3 e k d) := by
  show packW2 w _ = _
  unfold packW2
  refine (shapeCast_apply (t := S84x4096) _ shapeCasts_S84x2x2048_S84x4096 _ (ix3 d e k) (by
    rw [pos2, pos3]
    dsimp only
    omega)).trans ?_
  exact transpose_apply _ w transposes_S2x2048x84_S84x2x2048_2_0_1 _ (ix3 e k d) fun b => match b with
    | ⟨0, _⟩ => rfl
    | ⟨1, _⟩ => rfl
    | ⟨2, _⟩ => rfl

/-- The images with the samples along the last axis, channel, row and column stacked down the first. -/
def hostX (x : FVec Ideal S4096x3x32x32 .f32) : FVec Ideal S3072x4096 .f32 :=
  shapeCast S3072x4096 (transpose S3x32x32x4096 [1, 2, 3, 0] x transposes_S4096x3x32x32_S3x32x32x4096_1_2_3_0) shapeCasts_S3x32x32x4096_S3072x4096

theorem hostX_apply (x : FVec Ideal S4096x3x32x32 .f32) (N : Fin 4096) (c : Fin 3) (y z : Fin 32) :
    hostX x (ix2 ⟨c.val * 1024 + (y.val * 32 + z.val), by omega⟩ N) = x (ix4 N c y z) := by
  unfold hostX
  refine (shapeCast_apply (t := S3072x4096) _ shapeCasts_S3x32x32x4096_S3072x4096 _ (ix4 c y z N) (by
    rw [pos2, pos4]
    dsimp only
    omega)).trans ?_
  exact transpose_apply _ x transposes_S4096x3x32x32_S3x32x32x4096_1_2_3_0 _ (ix4 N c y z) fun b => match b with
    | ⟨0, _⟩ => rfl
    | ⟨1, _⟩ => rfl
    | ⟨2, _⟩ => rfl
    | ⟨3, _⟩ => rfl

/-- The arrays the host packs satisfy what the block reads of them. -/
theorem host_packed (A : Args) : Packed A (hostM1 A.c1w) (hostB1 A.c1b) (hostM2 A.c2w) (hostB2 A.c2b) (hostF1 A.f1w)
    (broadcastInDim S120x1 ![0] bcast_S120_S120x1_0 A.f1b) (truncf (F := Ideal) (φ := .f32) .bf16 A.f2w bitsLt_bf16_f32)
    (broadcastInDim S84x1 ![0] bcast_S84_S84x1_0 A.f2b)
    (truncf (F := Ideal) (φ := .f32) .bf16 (transpose S2x84 [1, 0] A.gw transposes_S84x2_S2x84_1_0) bitsLt_bf16_f32) (hostW1 A.w1)
    (shapeCast S4096x1 A.b1 shapeCasts_S2x2048_S4096x1) (hostW2 A.w2) (transpose S84x2 [1, 0] A.b2 transposes_S2x84_S84x2_1_0) A.f3w
    (broadcastInDim S10x1 ![0] bcast_S10_S10x1_0 A.f3b) where
  c1w := hostM1_packed A.c1w
  c1b := hostB1_apply A.c1b
  c2w := hostM2_packed A.c2w
  c2b := hostB2_apply A.c2b
  f1w := hostF1_apply A.f1w
  f1b := column (M := 120) (by decide) bcast_S120_S120x1_0 A.f1b
  f2w _ _ := rfl
  f2b := column (M := 84) (by decide) bcast_S84_S84x1_0 A.f2b
  gw e d := turned (A := 84) (B := 2) transposes_S84x2_S2x84_1_0 A.gw d e
  w1 := hostW1_apply A.w1
  b1 := hostB1e_apply A.b1
  w2 := hostW2_apply A.w2
  b2 d e := turned (A := 2) (B := 84) transposes_S2x84_S84x2_1_0 A.b2 e d
  f3w _ _ := rfl
  f3b := column (M := 10) (by decide) bcast_S10_S10x1_0 A.f3b

end Cert.Val
-- ==== Proof.HostArrays.lean ====
/- The arrays the kernel's region reads, as functions of the arguments. -/
module

public import proofs.«01_k».proof.Proof.HostPack
public import Idealize.ShloMosaic.Lib.StableHlo.Run

@[expose] public section

noncomputable section

namespace Cert.Val

open Cert.KernelIdeal Cert.KernelIdeal.Gen
open Idealize.ShloMosaic Idealize.ShloMosaic.TcCoe Idealize.ShloMosaic.ValueIdx

variable (m : (ℓ : Loc nD τ sig) → Buf (Elt Ideal) ℓ) (c : Dev nD)

/-- The kernel's arguments, as core `c` holds them at launch. -/
def argsOf : Args where
  x := m ((c : Thread nD τ).loc main_arg0)
  c1w := m ((c : Thread nD τ).loc main_arg1)
  c1b := m ((c : Thread nD τ).loc main_arg2)
  c2w := m ((c : Thread nD τ).loc main_arg3)
  c2b := m ((c : Thread nD τ).loc main_arg4)
  f1w := m ((c : Thread nD τ).loc main_arg5)
  f1b := m ((c : Thread nD τ).loc main_arg6)
  f2w := m ((c : Thread nD τ).loc main_arg7)
  f2b := m ((c : Thread nD τ).loc main_arg8)
  gw := m ((c : Thread nD τ).loc main_arg9)
  w1 := m ((c : Thread nD τ).loc main_arg10)
  b1 := m ((c : Thread nD τ).loc main_arg11)
  w2 := m ((c : Thread nD τ).loc main_arg12)
  b2 := m ((c : Thread nD τ).loc main_arg13)
  f3w := m ((c : Thread nD τ).loc main_arg14)
  f3b := m ((c : Thread nD τ).loc main_arg15)

set_option maxHeartbeats 4000000 in
/-- What the host lines before the region leave in the buffers the windows cover. -/
theorem entries :
    V m c main_v1 = hostX (argsOf m c).x
    ∧ V m c main_v7 = hostM1 (argsOf m c).c1w
    ∧ V m c main_v17 = hostB1 (argsOf m c).c1b
    ∧ V m c main_v13 = hostM2 (argsOf m c).c2w
    ∧ V m c main_v20 = hostB2 (argsOf m c).c2b
    ∧ V m c main_v24 = hostF1 (argsOf m c).f1w
    ∧ V m c main_v39 = broadcastInDim S120x1 ![0] bcast_S120_S120x1_0 (argsOf m c).f1b
    ∧ V m c main_v40 = truncf (F := Ideal) (φ := .f32) .bf16 (argsOf m c).f2w bitsLt_bf16_f32
    ∧ V m c main_v41 = broadcastInDim S84x1 ![0] bcast_S84_S84x1_0 (argsOf m c).f2b
    ∧ V m c main_v43 = truncf (F := Ideal) (φ := .f32) .bf16 (transpose S2x84 [1, 0] (argsOf m c).gw transposes_S84x2_S2x84_1_0) bitsLt_bf16_f32
    ∧ V m c main_v27 = hostW1 (argsOf m c).w1
    ∧ V m c main_v28 = shapeCast S4096x1 (argsOf m c).b1 shapeCasts_S2x2048_S4096x1
    ∧ V m c main_v31 = hostW2 (argsOf m c).w2
    ∧ V m c main_v32 = transpose S84x2 [1, 0] (argsOf m c).b2 transposes_S2x84_S84x2_1_0
    ∧ V m c main_v44 = broadcastInDim S10x1 ![0] bcast_S10_S10x1_0 (argsOf m c).f3b := by
  refine ⟨?_, ?_, ?_, ?_, ?_, ?_, ?_, ?_, ?_, ?_, ?_, ?_, ?_, ?_, ?_⟩ <;>
  · show StableHlo.after (List.flatten [hostOps0, hostOps0_1, hostOps0_2, hostOps0_3, hostOps0_4, hostOps0_5, hostOps0_6]) _ (Proc.devRef .tc _) = _
    simp only [List.flatten_cons, List.flatten_nil, List.append_nil, List.cons_append, List.nil_append]
    after_results
    rfl

end Cert.Val
-- ==== Proof.KernelRun.lean ====
/- The kernel's run: its result array, as the network's values of the arguments. -/
module

public import proofs.«01_k».proof.Proof.HostArrays
public import Idealize.ShloMosaic.Lib.Pipeline.ValueKit

@[expose] public section

noncomputable section

namespace Cert.Val

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD)

/-! ### The blocks the body reads -/

/-- Every window but the images' and the result's has block index zero on every axis, at every point. -/
theorem index_zero : ∀ (t : Fin cfg0.N) (w : Fin cfg0.W), w.val ≠ 0 ∧ w.val ≠ 16 → ∀ a, (cfg0.win w).index t a = 0 :=
  (by decide +kernel : ∀ (t : Fin grid0.N) (w : Fin 17), w.val ≠ 0 ∧ w.val ≠ 16 → ∀ a, (cfg0.win w).index t a = 0)

/-- The images' and the result's windows move along the last axis. -/
theorem index_move : ∀ t : Fin cfg0.N, (win0_0.index t (0 : Fin 2) = 0 ∧ win0_0.index t (1 : Fin 2) = t.val) ∧ win0_16.index t (0 : Fin 2) = 0 ∧ win0_16.index t (1 : Fin 2) = t.val :=
  (by decide +kernel : ∀ t : Fin grid0.N, _)

/-- An array read through indices whose coordinates are its own, past blocks of index zero, is the array. -/
theorem read_self {A B : ℕ} {α : Type} (X : (⟨2, ![A, B]⟩ : Shape).Idx → α) (f : (⟨2, ![A, B]⟩ : Shape).Idx → (⟨2, ![A, B]⟩ : Shape).Idx)
    (k : Fin 2 → ℕ) (hk : ∀ a, k a = 0) (hf : ∀ j, (f j 0).val = k 0 * A + 1 * (j 0).val ∧ (f j 1).val = k 1 * B + 1 * (j 1).val) : (fun j => X (f j)) = X := by
  funext j
  refine congrArg X (funext fun a => Fin.ext ?_)
  match a with
  | ⟨0, _⟩ =>
    refine (hf j).1.trans ?_
    rw [hk, Nat.zero_mul, Nat.zero_add, Nat.one_mul]
    rfl
  | ⟨1, _⟩ =>
    refine (hf j).2.trans ?_
    rw [hk, Nat.zero_mul, Nat.zero_add, Nat.one_mul]
    rfl

/-- A still window's block of an array is the array. -/
theorem still_read (t : Fin cfg0.N) :
    (∀ X : FVec Ideal S192x480 .bf16, ((cfg0.win 1).blk t).view.read (Elt Ideal) X = X)
    ∧ (∀ X : FVec Ideal S96x1 .f32, ((cfg0.win 2).blk t).view.read (Elt Ideal) X = X)
    ∧ (∀ X : FVec Ideal S160x480 .bf16, ((cfg0.win 3).blk t).view.read (Elt Ideal) X = X)
    ∧ (∀ X : FVec Ideal S80x1 .f32, ((cfg0.win 4).blk t).view.read (Elt Ideal) X = X)
    ∧ (∀ X : FVec Ideal S120x400 .bf16, ((cfg0.win 5).blk t).view.read (Elt Ideal) X = X)
    ∧ (∀ X : FVec Ideal S120x1 .f32, ((cfg0.win 6).blk t).view.read (Elt Ideal) X = X)
    ∧ (∀ X : FVec Ideal S84x120 .bf16, ((cfg0.win 7).blk t).view.read (Elt Ideal) X = X)
    ∧ (∀ X : FVec Ideal S84x1 .f32, ((cfg0.win 8).blk t).view.read (Elt Ideal) X = X)
    ∧ (∀ X : FVec Ideal S2x84 .bf16, ((cfg0.win 9).blk t).view.read (Elt Ideal) X = X)
    ∧ (∀ X : FVec Ideal S4096x84 .bf16, ((cfg0.win 10).blk t).view.read (Elt Ideal) X = X)
    ∧ (∀ X : FVec Ideal S4096x1 .f32, ((cfg0.win 11).blk t).view.read (Elt Ideal) X = X)
    ∧ (∀ X : FVec Ideal S84x4096 .bf16, ((cfg0.win 12).blk t).view.read (Elt Ideal) X = X)
    ∧ (∀ X : FVec Ideal S84x2 .f32, ((cfg0.win 13).blk t).view.read (Elt Ideal) X = X)
    ∧ (∀ X : FVec Ideal S10x84 .f32, ((cfg0.win 14).blk t).view.read (Elt Ideal) X = X)
    ∧ (∀ X : FVec Ideal S10x1 .f32, ((cfg0.win 15).blk t).view.read (Elt Ideal) X = X) :=
  ⟨fun X => read_self (A := 192) (B := 480) X (fun j => ((cfg0.win 1).blk t).view.emb j) _ (index_zero t 1 (by decide)) fun _ => ⟨rfl, rfl⟩,
    fun X => read_self (A := 96) (B := 1) X (fun j => ((cfg0.win 2).blk t).view.emb j) _ (index_zero t 2 (by decide)) fun _ => ⟨rfl, rfl⟩,
    fun X => read_self (A := 160) (B := 480) X (fun j => ((cfg0.win 3).blk t).view.emb j) _ (index_zero t 3 (by decide)) fun _ => ⟨rfl, rfl⟩,
    fun X => read_self (A := 80) (B := 1) X (fun j => ((cfg0.win 4).blk t).view.emb j) _ (index_zero t 4 (by decide)) fun _ => ⟨rfl, rfl⟩,
    fun X => read_self (A := 120) (B := 400) X (fun j => ((cfg0.win 5).blk t).view.emb j) _ (index_zero t 5 (by decide)) fun _ => ⟨rfl, rfl⟩,
    fun X => read_self (A := 120) (B := 1) X (fun j => ((cfg0.win 6).blk t).view.emb j) _ (index_zero t 6 (by decide)) fun _ => ⟨rfl, rfl⟩,
    fun X => read_self (A := 84) (B := 120) X (fun j => ((cfg0.win 7).blk t).view.emb j) _ (index_zero t 7 (by decide)) fun _ => ⟨rfl, rfl⟩,
    fun X => read_self (A := 84) (B := 1) X (fun j => ((cfg0.win 8).blk t).view.emb j) _ (index_zero t 8 (by decide)) fun _ => ⟨rfl, rfl⟩,
    fun X => read_self (A := 2) (B := 84) X (fun j => ((cfg0.win 9).blk t).view.emb j) _ (index_zero t 9 (by decide)) fun _ => ⟨rfl, rfl⟩,
    fun X => read_self (A := 4096) (B := 84) X (fun j => ((cfg0.win 10).blk t).view.emb j) _ (index_zero t 10 (by decide)) fun _ => ⟨rfl, rfl⟩,
    fun X => read_self (A := 4096) (B := 1) X (fun j => ((cfg0.win 11).blk t).view.emb j) _ (index_zero t 11 (by decide)) fun _ => ⟨rfl, rfl⟩,
    fun X => read_self (A := 84) (B := 4096) X (fun j => ((cfg0.win 12).blk t).view.emb j) _ (index_zero t 12 (by decide)) fun _ => ⟨rfl, rfl⟩,
    fun X => read_self (A := 84) (B := 2) X (fun j => ((cfg0.win 13).blk t).view.emb j) _ (index_zero t 13 (by decide)) fun _ => ⟨rfl, rfl⟩,
    fun X => read_self (A := 10) (B := 84) X (fun j => ((cfg0.win 14).blk t).view.emb j) _ (index_zero t 14 (by decide)) fun _ => ⟨rfl, rfl⟩,
    fun X => read_self (A := 10) (B := 1) X (fun j => ((cfg0.win 15).blk t).view.emb j) _ (index_zero t 15 (by decide)) fun _ => ⟨rfl, rfl⟩⟩

/-- The still windows' blocks are their arrays. -/
theorem still (t : Fin cfg0.N) :
    iblk m c 1 t = V m c main_v7
    ∧ iblk m c 2 t = V m c main_v17
    ∧ iblk m c 3 t = V m c main_v13
    ∧ iblk m c 4 t = V m c main_v20
    ∧ iblk m c 5 t = V m c main_v24
    ∧ iblk m c 6 t = V m c main_v39
    ∧ iblk m c 7 t = V m c main_v40
    ∧ iblk m c 8 t = V m c main_v41
    ∧ iblk m c 9 t = V m c main_v43
    ∧ iblk m c 10 t = V m c main_v27
    ∧ iblk m c 11 t = V m c main_v28
    ∧ iblk m c 12 t = V m c main_v31
    ∧ iblk m c 13 t = V m c main_v32
    ∧ iblk m c 14 t = V m c main_arg14
    ∧ iblk m c 15 t = V m c main_v44 := by
  obtain ⟨h1, h2, h3, h4, h5, h6, h7, h8, h9, h10, h11, h12, h13, h14, h15⟩ := still_read t
  exact ⟨h1 _, h2 _, h3 _, h4 _, h5 _, h6 _, h7 _, h8 _, h9 _, h10 _, h11 _, h12 _, h13 _, h14 _, h15 _⟩

/-- So the blocks the body reads hold the network's weights as the body takes them. -/
theorem still_packed (t : Fin cfg0.N) : Packed (argsOf m c) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by
  obtain ⟨h1, h2, h3, h4, h5, h6, h7, h8, h9, h10, h11, h12, h13, h14, h15⟩ := still m c t
  obtain ⟨-, e1, e2, e3, e4, e5, e6, e7, e8, e9, e10, e11, e12, e13, e15⟩ := entries m c
  have P := host_packed (argsOf m c)
  rw [← e1, ← e2, ← e3, ← e4, ← e5, ← e6, ← e7, ← e8, ← e9, ← e10, ← e11, ← e12, ← e13, ← e15, ← h1, ← h2, ← h3, ← h4, ← h5, ← h6, ← h7, ← h8, ← h9,
    ← h10, ← h11, ← h12, ← h13, ← h15] at P
  rw [h14, V_main_arg14]
  exact P

/-- The sample at place `n` of point `t`'s block. -/
def sample (t : Fin cfg0.N) (n : Fin 256) : Fin 4096 := ⟨t.val * 256 + n.val, by
  have h : t.val < 16 := lt_of_lt_of_eq t.isLt (by decide)
  omega⟩

/-- The images' block is its 256 samples. -/
theorem images (t : Fin cfg0.N) (n : Fin 256) (k : Fin 3) (y z : Fin 32) :
    iblk m c 0 t (ValueIdx.ix2 ⟨k.val * 1024 + (y.val * 32 + z.val), by omega⟩ n) = (argsOf m c).x (ValueIdx.ix4 (sample t n) k y z) := by
  have e := (entries m c).1
  rw [← hostX_apply (argsOf m c).x (sample t n) k y z, ← e]
  unfold iblk
  obtain ⟨⟨h0, h1⟩, -⟩ := index_move t
  show V m c main_v1 (((cfg0.win 0).blk t).view.emb (ValueIdx.ix2 ⟨k.val * 1024 + (y.val * 32 + z.val), by omega⟩ n)) = _
  refine congrArg (V m c main_v1) (funext fun a => Fin.ext ?_)
  match a with
  | ⟨0, _⟩ =>
    show win0_0.index t (0 : Fin 2) * 3072 + 1 * (k.val * 1024 + (y.val * 32 + z.val)) = k.val * 1024 + (y.val * 32 + z.val)
    omega
  | ⟨1, _⟩ =>
    show win0_0.index t (1 : Fin 2) * 256 + 1 * n.val = t.val * 256 + n.val
    omega

/-! ### The result -/

/-- The result array before the last line turns it over. -/
theorem turned_out (hA : (argsOf m c).Finite) :
    (dats m 0 c).arrAt 16 cfg0.N = (fun i : S10x4096.Idx => (argsOf m c).out (i 1) (i 0) : FVec Ideal S10x4096 .f32) := by
  refine (dats m 0 c).arrAt_eq_of_covers 16 _ (by decide +kernel) fun t _ y => ?_
  show (dats m 0 c).after 16 t y = (argsOf m c).out (((cfg0.win 16).blk t).view.emb y 1) (((cfg0.win 16).blk t).view.emb y 0)
  rw [after0_16]
  obtain ⟨j, n, rfl⟩ : ∃ (j : Fin 10) (n : Fin 256), y = ValueIdx.ix2 j n := ⟨y 0, y 1, ValueIdx.eq_ix2 y⟩
  refine (block_apply (argsOf m c) hA _ _ _ _ _ _ _ _ _ _ _ _ _ _ _ _ (still_packed m c t) (sample t n) n (images m c t n) j).trans ?_
  obtain ⟨-, h0, h1⟩ := index_move t
  refine congrArg₂ (argsOf m c).out (Fin.ext ?_) (Fin.ext ?_)
  · show t.val * 256 + n.val = win0_16.index t (1 : Fin 2) * 256 + 1 * n.val
    omega
  · show j.val = win0_16.index t (0 : Fin 2) * 10 + 1 * j.val
    omega

/-- The result array at the end. -/
def result : FVec Ideal S4096x10 .f32 := fun i => (argsOf m c).out (i 0) (i 1)

theorem tail_out (hA : (argsOf m c).Finite) : Pipeline.afterTail₀ cfgs (dats m) 0 (V0 m) [hostOps1] c main_v46 = result m c := by
  have h : Pipeline.withArrays spec0 c (V0 m c) (fun w => (dats m 0 c).arrAt w cfg0.N) (Proc.devRef .tc main_v45)
      = (fun i : S10x4096.Idx => (argsOf m c).out (i 1) (i 0) : FVec Ideal S10x4096 .f32) :=
    (Pipeline.withArrays_arr spec0 (by decide) c (V0 m c) (fun w => (dats m 0 c).arrAt w cfg0.N) 16).trans (turned_out m c hA)
  unfold Pipeline.afterTail₀
  show StableHlo.after (List.flatten [hostOps1]) (Pipeline.withArrays spec0 c (V0 m c) fun w => (dats m 0 c).arrAt w cfg0.N) (Proc.devRef .tc main_v46) = _
  generalize Pipeline.withArrays spec0 c (V0 m c) (fun w => (dats m 0 c).arrAt w cfg0.N) = W at h ⊢
  simp only [List.flatten_cons, List.flatten_nil, List.append_nil]
  after_results
  funext i
  obtain ⟨n, j, rfl⟩ : ∃ (n : Fin 4096) (j : Fin 10), i = ValueIdx.ix2 n j := ⟨i 0, i 1, ValueIdx.eq_ix2 i⟩
  refine (turned (A := 10) (B := 4096) transposes_S10x4096_S4096x10_1_0 (W (Proc.devRef .tc main_v45)) j n).trans ?_
  rw [h]
  rfl

/-- The kernel's run: its result is the network's values, its arguments are unchanged. -/
theorem kernel_run (ρ : Dev nD → PrngReg) (hA : ∀ c, (argsOf m c).Finite) :
    θ_run defs (onTc (τ := τ) (main (F := Ideal))) ⟨m, fun _ => 0, ρ⟩ fun r => ∀ c : Dev nD, r.2.mem ((c.tc : Thread nD τ).loc main_v46) = result m c :=
  (θ_run defs _ _).mono (fun r h c => ((h c).2 main_v46 (Pipeline.mem_restRefs_of main_v46 (by decide) (by decide))).trans (tail_out m c (hA c)))
    (run_main m ρ)

end Cert.Val
-- ==== Proof.RefConv.lean ====
/- The reference's convolution and pooling read at an index, at every extent: the windows of an image stacked along two
   new axes, their contraction with the filters, and the 2×2 maximum. -/
module

public import proofs.«01_k».proof.Proof.Spec
public import Idealize.ShloMosaic.Lib.Pipeline.Value
public import Idealize.ShloMosaic.Lib.ValueIdx
public import Idealize.ShloMosaic.Lib.ValueIdxCoords
public import Idealize.ShloMosaic.PureOps.Ideal.Laws

@[expose] public section

noncomputable section

namespace Cert.Val

open Idealize.ShloMosaic Idealize.ShloMosaic.ValueIdx

variable {α : Type} {N C H W O : ℕ}

/-- A slice `d` rows down, read at an index. -/
theorem slice_rows (d : ℕ) (x : (⟨4, ![N, C, H + 4, W]⟩ : Shape).Idx → α)
    (h : (⟨4, ![N, C, H + 4, W]⟩ : Shape).Slices ![0, 0, d, 0] ⟨4, ![N, C, H, W]⟩) (n : Fin N) (c : Fin C) (y : Fin H)
    (z : Fin W) (hd : y.val + d < H + 4) :
    extractStridedSlice ⟨4, ![N, C, H, W]⟩ ![0, 0, d, 0] x h (ix4 n c y z) = x (ix4 n c ⟨y.val + d, hd⟩ z) :=
  extractStridedSlice_apply _ x h _ _ fun a => match a with
    | ⟨0, _⟩ => (Nat.zero_add _).symm
    | ⟨1, _⟩ => (Nat.zero_add _).symm
    | ⟨2, _⟩ => Nat.add_comm _ _
    | ⟨3, _⟩ => (Nat.zero_add _).symm

/-- A slice `d` columns across, read at an index. -/
theorem slice_cols (d : ℕ) (x : (⟨5, ![N, C, 5, H, W + 4]⟩ : Shape).Idx → α)
    (h : (⟨5, ![N, C, 5, H, W + 4]⟩ : Shape).Slices ![0, 0, 0, 0, d] ⟨5, ![N, C, 5, H, W]⟩) (n : Fin N) (c : Fin C)
    (e : Fin 5) (y : Fin H) (z : Fin W) (hd : z.val + d < W + 4) :
    extractStridedSlice ⟨5, ![N, C, 5, H, W]⟩ ![0, 0, 0, 0, d] x h (ix5 n c e y z) = x (ix5 n c e y ⟨z.val + d, hd⟩) :=
  extractStridedSlice_apply _ x h _ _ fun a => match a with
    | ⟨0, _⟩ => (Nat.zero_add _).symm
    | ⟨1, _⟩ => (Nat.zero_add _).symm
    | ⟨2, _⟩ => (Nat.zero_add _).symm
    | ⟨3, _⟩ => (Nat.zero_add _).symm
    | ⟨4, _⟩ => Nat.add_comm _ _

/-- Five row shifts of an image stacked on a new third axis: at `(n, c, d, y, z)`, the image `d` rows down. -/
theorem rows_apply (x : (⟨4, ![N, C, H + 4, W]⟩ : Shape).Idx → α) (f : Fin 5 → (⟨4, ![N, C, H, W]⟩ : Shape).Idx → α)
    (hf : ∀ d n c y z, f d (ix4 n c y z) = x (ix4 n c ⟨y.val + d.val, by omega⟩ z))
    (hb : (⟨4, ![N, C, H, W]⟩ : Shape).BroadcastsInDim ⟨5, ![N, C, 1, H, W]⟩ ![0, 1, 3, 4])
    (hc : Shape.Concatenates ((List.ofFn fun d : Fin 5 => (⟨⟨5, ![N, C, 1, H, W]⟩,
      broadcastInDim ⟨5, ![N, C, 1, H, W]⟩ ![0, 1, 3, 4] hb (f d)⟩ : (s : Shape) × (s.Idx → α))).map (·.1))
      ⟨5, ![N, C, 5, H, W]⟩ 2) (n : Fin N) (c : Fin C) (d : Fin 5) (y : Fin H) (z : Fin W) :
    concatenate ⟨5, ![N, C, 5, H, W]⟩ 2 (List.ofFn fun d : Fin 5 => (⟨⟨5, ![N, C, 1, H, W]⟩,
      broadcastInDim ⟨5, ![N, C, 1, H, W]⟩ ![0, 1, 3, 4] hb (f d)⟩ : (s : Shape) × (s.Idx → α))) hc (ix5 n c d y z)
      = x (ix4 n c ⟨y.val + d.val, by omega⟩ z) := by
  rw [concatenate_ofFn_unit_apply (s₁ := ⟨5, ![N, C, 1, H, W]⟩) (t := ⟨5, ![N, C, 5, H, W]⟩) 2
    (fun d => broadcastInDim ⟨5, ![N, C, 1, H, W]⟩ ![0, 1, 3, 4] hb (f d)) hc rfl rfl
    (ix5 n c d y z) d rfl (ix5 n c 0 y z) (fun b hb => by
      match b, hb with
      | ⟨0, _⟩, _ => rfl
      | ⟨1, _⟩, _ => rfl
      | ⟨2, _⟩, hb => exact absurd rfl hb
      | ⟨3, _⟩, _ => rfl
      | ⟨4, _⟩, _ => rfl)]
  rw [broadcastInDim_apply _ hb (f d) (ix5 n c 0 y z) (ix4 n c y z) (fun a => by
      match a with
      | ⟨0, _⟩ => show n.val = if N = 1 then 0 else n.val; split <;> omega
      | ⟨1, _⟩ => show c.val = if C = 1 then 0 else c.val; split <;> omega
      | ⟨2, _⟩ => show y.val = if H = 1 then 0 else y.val; split <;> omega
      | ⟨3, _⟩ => show z.val = if W = 1 then 0 else z.val; split <;> omega), hf]

/-- Five column shifts of such a stack stacked on a new fourth axis. -/
theorem cols_apply (x : (⟨5, ![N, C, 5, H, W + 4]⟩ : Shape).Idx → α)
    (f : Fin 5 → (⟨5, ![N, C, 5, H, W]⟩ : Shape).Idx → α)
    (hf : ∀ d n c e y z, f d (ix5 n c e y z) = x (ix5 n c e y ⟨z.val + d.val, by omega⟩))
    (hb : (⟨5, ![N, C, 5, H, W]⟩ : Shape).BroadcastsInDim ⟨6, ![N, C, 5, 1, H, W]⟩ ![0, 1, 2, 4, 5])
    (hc : Shape.Concatenates ((List.ofFn fun d : Fin 5 => (⟨⟨6, ![N, C, 5, 1, H, W]⟩,
      broadcastInDim ⟨6, ![N, C, 5, 1, H, W]⟩ ![0, 1, 2, 4, 5] hb (f d)⟩ : (s : Shape) × (s.Idx → α))).map (·.1))
      ⟨6, ![N, C, 5, 5, H, W]⟩ 3) (n : Fin N) (c : Fin C) (e d : Fin 5) (y : Fin H) (z : Fin W) :
    concatenate ⟨6, ![N, C, 5, 5, H, W]⟩ 3 (List.ofFn fun d : Fin 5 => (⟨⟨6, ![N, C, 5, 1, H, W]⟩,
      broadcastInDim ⟨6, ![N, C, 5, 1, H, W]⟩ ![0, 1, 2, 4, 5] hb (f d)⟩ : (s : Shape) × (s.Idx → α))) hc
      (ix6 n c e d y z) = x (ix5 n c e y ⟨z.val + d.val, by omega⟩) := by
  rw [concatenate_ofFn_unit_apply (s₁ := ⟨6, ![N, C, 5, 1, H, W]⟩) (t := ⟨6, ![N, C, 5, 5, H, W]⟩) 3
    (fun d => broadcastInDim ⟨6, ![N, C, 5, 1, H, W]⟩ ![0, 1, 2, 4, 5] hb (f d)) hc rfl rfl
    (ix6 n c e d y z) d rfl (ix6 n c e 0 y z) (fun b hb => by
      match b, hb with
      | ⟨0, _⟩, _ => rfl
      | ⟨1, _⟩, _ => rfl
      | ⟨2, _⟩, _ => rfl
      | ⟨3, _⟩, hb => exact absurd rfl hb
      | ⟨4, _⟩, _ => rfl
      | ⟨5, _⟩, _ => rfl)]
  rw [broadcastInDim_apply _ hb (f d) (ix6 n c e 0 y z) (ix5 n c e y z) (fun a => by
      match a with
      | ⟨0, _⟩ => show n.val = if N = 1 then 0 else n.val; split <;> omega
      | ⟨1, _⟩ => show c.val = if C = 1 then 0 else c.val; split <;> omega
      | ⟨2, _⟩ => exact (if_neg (show ¬ (5 : ℕ) = 1 by decide)).symm
      | ⟨3, _⟩ => show y.val = if H = 1 then 0 else y.val; split <;> omega
      | ⟨4, _⟩ => show z.val = if W = 1 then 0 else z.val; split <;> omega), hf]

/-- The dimension numbers of filters `[O, C, 5, 5]` against windows `[N, C, 5, 5, H, W]`, the last three filter axes
    contracted. -/
def convDims (N C H W O : ℕ) (wf : DotDims.WF ⟨4, ![O, C, 5, 5]⟩ ⟨6, ![N, C, 5, 5, H, W]⟩ ⟨4, ![O, N, H, W]⟩
    [1, 2, 3] [1, 2, 3] [0] [0, 4, 5] [] []) :
    DotDims ⟨4, ![O, C, 5, 5]⟩ ⟨6, ![N, C, 5, 5, H, W]⟩ ⟨4, ![O, N, H, W]⟩ where
  lhsContracting := [1, 2, 3]
  rhsContracting := [1, 2, 3]
  lhsNonContracting := [0]
  rhsNonContracting := [0, 4, 5]
  lhsBatch := []
  rhsBatch := []
  wf := wf

/-- Its contraction index is a channel and a place in the window. -/
def convContr (wf : DotDims.WF ⟨4, ![O, C, 5, 5]⟩ ⟨6, ![N, C, 5, 5, H, W]⟩ ⟨4, ![O, N, H, W]⟩
    [1, 2, 3] [1, 2, 3] [0] [0, 4, 5] [] []) : (convDims N C H W O wf).contr.Idx ≃ Fin C × Fin 5 × Fin 5 where
  toFun q := (q ⟨0, show 0 < 3 by decide⟩, q ⟨1, show 1 < 3 by decide⟩, q ⟨2, show 2 < 3 by decide⟩)
  invFun p := fun a => match a with
    | ⟨0, _⟩ => p.1
    | ⟨1, _⟩ => p.2.1
    | ⟨2, _⟩ => p.2.2
  left_inv q := by
    funext a
    match a with
    | ⟨0, _⟩ => rfl
    | ⟨1, _⟩ => rfl
    | ⟨2, _⟩ => rfl
  right_inv _ := rfl

/-- The contraction read at an index. -/
theorem convDot_apply (wf : DotDims.WF ⟨4, ![O, C, 5, 5]⟩ ⟨6, ![N, C, 5, 5, H, W]⟩ ⟨4, ![O, N, H, W]⟩
    [1, 2, 3] [1, 2, 3] [0] [0, 4, 5] [] [])
    (w : (⟨4, ![O, C, 5, 5]⟩ : Shape).Idx → EReal)
    (X : (⟨6, ![N, C, 5, 5, H, W]⟩ : Shape).Idx → EReal) (o : Fin O) (n : Fin N) (y : Fin H) (z : Fin W) :
    Host.dotGeneral (F := Ideal) (φ₁ := .f32) (φ₂ := .f32) (convDims N C H W O wf) none w X (ix4 o n y z)
      = ∑ c : Fin C, ∑ di : Fin 5, ∑ dj : Fin 5, w (ix4 o c di dj) * X (ix6 n c di dj y z) := by
  simp only [Host.dotGeneral]
  rw [Ideal.dotGeneral_apply]
  trans ∑ p : Fin C × Fin 5 × Fin 5, w (ix4 o p.1 p.2.1 p.2.2) * X (ix6 n p.1 p.2.1 p.2.2 y z)
  · refine Fintype.sum_equiv (convContr wf) _ _ fun q => ?_
    congr 1
    · refine congrArg w (funext fun a => Fin.ext ?_)
      match a with
      | ⟨0, _⟩ => rfl
      | ⟨1, _⟩ => rfl
      | ⟨2, _⟩ => rfl
      | ⟨3, _⟩ => rfl
    · refine congrArg X (funext fun a => Fin.ext ?_)
      match a with
      | ⟨0, _⟩ => rfl
      | ⟨1, _⟩ => rfl
      | ⟨2, _⟩ => rfl
      | ⟨3, _⟩ => rfl
      | ⟨4, _⟩ => rfl
      | ⟨5, _⟩ => rfl
  · rw [Fintype.sum_prod_type]
    refine Finset.sum_congr rfl fun c _ => ?_
    rw [Fintype.sum_prod_type]

/-- The 2×2 maximum, from an initial value, read at an index. -/
theorem pool_apply {h : ℕ} (x : (⟨4, ![N, C, 2 * h, 2 * h]⟩ : Shape).Idx → EReal) {u : Shape} (v : u.Idx → EReal)
    (hw : (⟨4, ![N, C, 2 * h, 2 * h]⟩ : Shape).ReduceWindows ![1, 1, 2, 2] ![1, 1, 2, 2] ![0, 0, 0, 0] ![0, 0, 0, 0]
      ⟨4, ![N, C, h, h]⟩) (hu : 0 < u.numel) (n : Fin N) (c : Fin C) (i j : Fin h) :
    Host.reduceWindow (FloatOps.maximumf (F := Ideal) (φ := .f32)) ![1, 1, 2, 2] ![1, 1, 2, 2] ![0, 0, 0, 0]
      ![0, 0, 0, 0] x v hw hu (ix4 n c i j)
      = max (max (max (max (v (Shape.Idx.first hu)) (x (ix4 n c (at2 i 0) (at2 j 0)))) (x (ix4 n c (at2 i 0) (at2 j 1))))
          (x (ix4 n c (at2 i 1) (at2 j 0)))) (x (ix4 n c (at2 i 1) (at2 j 1))) := by
  have key : ∀ (k : Fin (⟨4, ![1, 1, 2, 2]⟩ : Shape).numel) (p q : Fin 2),
      ((⟨4, ![1, 1, 2, 2]⟩ : Shape).rowMajor.symm k) = ix4 0 0 p q →
      (if hin : ∀ a : Fin 4, (![0, 0, 0, 0] : Fin 4 → ℕ) a
            ≤ ((ix4 n c i j) a).val * (![1, 1, 2, 2] : Fin 4 → ℕ) a
              + ((⟨4, ![1, 1, 2, 2]⟩ : Shape).rowMajor.symm k a).val
          ∧ ((ix4 n c i j) a).val * (![1, 1, 2, 2] : Fin 4 → ℕ) a
              + ((⟨4, ![1, 1, 2, 2]⟩ : Shape).rowMajor.symm k a).val - (![0, 0, 0, 0] : Fin 4 → ℕ) a
            < (⟨4, ![N, C, 2 * h, 2 * h]⟩ : Shape).size a
        then x (fun a => ⟨_, (hin a).2⟩) else v (Shape.Idx.first hu))
        = x (ix4 n c (at2 i p) (at2 j q)) := by
    intro k p q hk
    rw [hk]
    rw [dif_pos]
    · refine congrArg x (funext fun a => Fin.ext ?_)
      match a with
      | ⟨0, _⟩ => show n.val * 1 + 0 - 0 = n.val; omega
      | ⟨1, _⟩ => show c.val * 1 + 0 - 0 = c.val; omega
      | ⟨2, _⟩ => show i.val * 2 + p.val - 0 = 2 * i.val + p.val; omega
      | ⟨3, _⟩ => show j.val * 2 + q.val - 0 = 2 * j.val + q.val; omega
    · intro a
      match a with
      | ⟨0, _⟩ => exact ⟨Nat.zero_le _, show n.val * 1 + 0 - 0 < N by omega⟩
      | ⟨1, _⟩ => exact ⟨Nat.zero_le _, show c.val * 1 + 0 - 0 < C by omega⟩
      | ⟨2, _⟩ => exact ⟨Nat.zero_le _, show i.val * 2 + p.val - 0 < 2 * h by omega⟩
      | ⟨3, _⟩ => exact ⟨Nat.zero_le _, show j.val * 2 + q.val - 0 < 2 * h by omega⟩
  have hl : List.finRange (⟨4, ![1, 1, 2, 2]⟩ : Shape).numel
      = [⟨0, by decide⟩, ⟨1, by decide⟩, ⟨2, by decide⟩, ⟨3, by decide⟩] := by decide
  have h0 : (⟨4, ![1, 1, 2, 2]⟩ : Shape).rowMajor.symm ⟨0, by decide⟩ = ix4 0 0 0 0 := by decide
  have h1 : (⟨4, ![1, 1, 2, 2]⟩ : Shape).rowMajor.symm ⟨1, by decide⟩ = ix4 0 0 0 1 := by decide
  have h2 : (⟨4, ![1, 1, 2, 2]⟩ : Shape).rowMajor.symm ⟨2, by decide⟩ = ix4 0 0 1 0 := by decide
  have h3 : (⟨4, ![1, 1, 2, 2]⟩ : Shape).rowMajor.symm ⟨3, by decide⟩ = ix4 0 0 1 1 := by decide
  unfold Host.reduceWindow
  simp only
  rw [hl]
  simp only [List.foldl_cons, List.foldl_nil]
  exact congrArg₂ max (congrArg₂ max (congrArg₂ max (congrArg₂ max rfl (key _ 0 0 h0)) (key _ 0 1 h1)) (key _ 1 0 h2))
    (key _ 1 1 h3)

end Cert.Val

end
-- ==== Proof.RefLayers.lean ====
/- The reference's two convolution layers read at an index. -/
module

public import proofs.«01_k».proof.Proof.RefConv
public import proofs.«01_k».proof.Proof.Gen.ReferenceIdeal.Read

@[expose] public section

noncomputable section

namespace Cert.Val

open Cert.ReferenceIdeal Cert.ReferenceIdeal.Gen Cert.ReferenceIdeal.Read
open Idealize.ShloMosaic Idealize.ShloMosaic.ValueIdx

variable (x0 : (⟨S4096x3x32x32, .f32⟩ : BufTy).Contents (Elt Ideal)) (x1 : (⟨S6x3x5x5, .f32⟩ : BufTy).Contents (Elt Ideal))
  (x2 : (⟨S6, .f32⟩ : BufTy).Contents (Elt Ideal)) (x3 : (⟨S16x6x5x5, .f32⟩ : BufTy).Contents (Elt Ideal))
  (x4 : (⟨S16, .f32⟩ : BufTy).Contents (Elt Ideal))

/-- The literals the maxima and the rectifiers start from. -/
theorem ofBits_zero : FloatOps.ofBits (F := Ideal) .f32 0x00000000#32 = (0 : EReal) := Ideal.ofBits_zero_f32

theorem ofBits_bot : FloatOps.ofBits (F := Ideal) .f32 0xFF800000#32 = (⊥ : EReal) := by
  show Ideal.ofBits .f32 0xFF800000#32 = ⊥
  simp [Ideal.ofBits, Ideal.ieee]

/-- The images stacked down their rows. -/
theorem ref_rows1 (n : Fin 4096) (c : Fin 3) (d : Fin 5) (y : Fin 28) (z : Fin 32) :
    val_main_v10 (F := Ideal) x0 (ix5 n c d y z) = x0 (ix4 n c ⟨y.val + d.val, by omega⟩ z) :=
  rows_apply (N := 4096) (C := 3) (H := 28) (W := 32) x0
    ![val_main_v0 (F := Ideal) x0, val_main_v1 (F := Ideal) x0, val_main_v2 (F := Ideal) x0, val_main_v3 (F := Ideal) x0,
      val_main_v4 (F := Ideal) x0]
    (fun d n c y z => match d with
      | 0 => slice_rows (H := 28) 0 x0 slices_S4096x3x32x32_S4096x3x28x32_0_0_0_0 n c y z (by omega)
      | 1 => slice_rows (H := 28) 1 x0 slices_S4096x3x32x32_S4096x3x28x32_0_0_1_0 n c y z (by omega)
      | 2 => slice_rows (H := 28) 2 x0 slices_S4096x3x32x32_S4096x3x28x32_0_0_2_0 n c y z (by omega)
      | 3 => slice_rows (H := 28) 3 x0 slices_S4096x3x32x32_S4096x3x28x32_0_0_3_0 n c y z (by omega)
      | 4 => slice_rows (H := 28) 4 x0 slices_S4096x3x32x32_S4096x3x28x32_0_0_4_0 n c y z (by omega))
    bcast_S4096x3x28x32_S4096x3x1x28x32_0_1_3_4 _ n c d y z

/-- The windows. -/
theorem ref_windows1 (n : Fin 4096) (c : Fin 3) (di dj : Fin 5) (y z : Fin 28) :
    val_main_v21 (F := Ideal) x0 (ix6 n c di dj y z)
      = x0 (ix4 n c ⟨y.val + di.val, by omega⟩ ⟨z.val + dj.val, by omega⟩) :=
  (cols_apply (N := 4096) (C := 3) (H := 28) (W := 28) (val_main_v10 (F := Ideal) x0)
    ![val_main_v11 (F := Ideal) x0, val_main_v12 (F := Ideal) x0, val_main_v13 (F := Ideal) x0,
      val_main_v14 (F := Ideal) x0, val_main_v15 (F := Ideal) x0]
    (fun d n c e y z => match d with
      | 0 => slice_cols (W := 28) 0 (val_main_v10 (F := Ideal) x0)
        slices_S4096x3x5x28x32_S4096x3x5x28x28_0_0_0_0_0 n c e y z (by omega)
      | 1 => slice_cols (W := 28) 1 (val_main_v10 (F := Ideal) x0)
        slices_S4096x3x5x28x32_S4096x3x5x28x28_0_0_0_0_1 n c e y z (by omega)
      | 2 => slice_cols (W := 28) 2 (val_main_v10 (F := Ideal) x0)
        slices_S4096x3x5x28x32_S4096x3x5x28x28_0_0_0_0_2 n c e y z (by omega)
      | 3 => slice_cols (W := 28) 3 (val_main_v10 (F := Ideal) x0)
        slices_S4096x3x5x28x32_S4096x3x5x28x28_0_0_0_0_3 n c e y z (by omega)
      | 4 => slice_cols (W := 28) 4 (val_main_v10 (F := Ideal) x0)
        slices_S4096x3x5x28x32_S4096x3x5x28x28_0_0_0_0_4 n c e y z (by omega))
    bcast_S4096x3x5x28x28_S4096x3x5x1x28x28_0_1_2_4_5 _ n c di dj y z).trans (ref_rows1 x0 n c di y _)

/-- The correlation, biased and rectified. -/
theorem ref_relu1 (n : Fin 4096) (o : Fin 6) (y z : Fin 28) :
    val_main_v27 (F := Ideal) x0 x1 x2 (ix4 n o y z)
      = max (conv (H := 28) (W := 28) (fun c y z => x0 (ix4 n c y z)) (fun c di dj => x1 (ix4 o c di dj)) y z + x2 (ix1 o)) 0 := by
  have e1 : val_main_v23 (F := Ideal) x0 x1 (ix4 n o y z)
      = conv (H := 28) (W := 28) (fun c y z => x0 (ix4 n c y z)) (fun c di dj => x1 (ix4 o c di dj)) y z := by
    rw [val_main_v23_apply, show idx_main_v23 (ix4 n o y z) = ix4 o n y z from funext fun a => match a with
      | ⟨0, _⟩ => rfl
      | ⟨1, _⟩ => rfl
      | ⟨2, _⟩ => rfl
      | ⟨3, _⟩ => rfl]
    refine (convDot_apply (N := 4096) (C := 3) (H := 28) (W := 28) (O := 6)
      dot_S6x3x5x5_S4096x3x5x5x28x28_S6x4096x28x28_123_123_0_045_n_n.wf x1 (val_main_v21 (F := Ideal) x0) o n y z).trans ?_
    exact Finset.sum_congr rfl fun c _ => Finset.sum_congr rfl fun di _ => Finset.sum_congr rfl fun dj _ =>
      congrArg (x1 (ix4 o c di dj) * ·) (ref_windows1 x0 n c di dj y z)
  have e2 : val_main_v25 (F := Ideal) x2 (ix4 n o y z) = x2 (ix1 o) := by
    rw [val_main_v25_apply, val_main_v24_apply]
    exact congrArg x2 (funext fun a => match a with | ⟨0, _⟩ => rfl)
  rw [val_main_v27_apply, val_main_v26_apply, e1, e2, val_main_call0_v0_apply, val_main_call0_cst_apply, ofBits_zero]
  rfl

/-- The layer. -/
theorem ref_layer1 (n : Fin 4096) (o : Fin 6) (i j : Fin 14) :
    val_main_v29 (F := Ideal) x0 x1 x2 (ix4 n o i j)
      = layer (h := 14) (fun c y z => x0 (ix4 n c y z)) (fun c di dj => x1 (ix4 o c di dj)) (x2 (ix1 o)) i j := by
  refine (pool_apply (N := 4096) (C := 6) (h := 14) (val_main_v27 (F := Ideal) x0 x1 x2) (val_main_v28 (F := Ideal))
    reduceWindows_S4096x6x28x28_S4096x6x14x14_w1s1p0_0_w1s1p0_0_w2s2p0_0_w2s2p0_0 h_S_ n o i j).trans ?_
  have e0 : val_main_v28 (F := Ideal) (Shape.Idx.first h_S_) = ⊥ := by
    rw [val_main_v28_apply, val_main_cst_apply, ofBits_bot]
  simp only [e0, ref_relu1]
  exact pool_relu _ _ _ _ _

/-- Second layer: the images stacked down their rows. -/
theorem ref_rows2 (n : Fin 4096) (c : Fin 6) (d : Fin 5) (y : Fin 10) (z : Fin 14) :
    val_main_v40 (F := Ideal) x0 x1 x2 (ix5 n c d y z) = (val_main_v29 (F := Ideal) x0 x1 x2) (ix4 n c ⟨y.val + d.val, by omega⟩ z) :=
  rows_apply (N := 4096) (C := 6) (H := 10) (W := 14) (val_main_v29 (F := Ideal) x0 x1 x2)
    ![val_main_v30 (F := Ideal) x0 x1 x2, val_main_v31 (F := Ideal) x0 x1 x2, val_main_v32 (F := Ideal) x0 x1 x2, val_main_v33 (F := Ideal) x0 x1 x2,
      val_main_v34 (F := Ideal) x0 x1 x2]
    (fun d n c y z => match d with
      | 0 => slice_rows (H := 10) 0 (val_main_v29 (F := Ideal) x0 x1 x2) slices_S4096x6x14x14_S4096x6x10x14_0_0_0_0 n c y z (by omega)
      | 1 => slice_rows (H := 10) 1 (val_main_v29 (F := Ideal) x0 x1 x2) slices_S4096x6x14x14_S4096x6x10x14_0_0_1_0 n c y z (by omega)
      | 2 => slice_rows (H := 10) 2 (val_main_v29 (F := Ideal) x0 x1 x2) slices_S4096x6x14x14_S4096x6x10x14_0_0_2_0 n c y z (by omega)
      | 3 => slice_rows (H := 10) 3 (val_main_v29 (F := Ideal) x0 x1 x2) slices_S4096x6x14x14_S4096x6x10x14_0_0_3_0 n c y z (by omega)
      | 4 => slice_rows (H := 10) 4 (val_main_v29 (F := Ideal) x0 x1 x2) slices_S4096x6x14x14_S4096x6x10x14_0_0_4_0 n c y z (by omega))
    bcast_S4096x6x10x14_S4096x6x1x10x14_0_1_3_4 _ n c d y z

/-- Second layer: the windows. -/
theorem ref_windows2 (n : Fin 4096) (c : Fin 6) (di dj : Fin 5) (y z : Fin 10) :
    val_main_v51 (F := Ideal) x0 x1 x2 (ix6 n c di dj y z)
      = (val_main_v29 (F := Ideal) x0 x1 x2) (ix4 n c ⟨y.val + di.val, by omega⟩ ⟨z.val + dj.val, by omega⟩) :=
  (cols_apply (N := 4096) (C := 6) (H := 10) (W := 10) (val_main_v40 (F := Ideal) x0 x1 x2)
    ![val_main_v41 (F := Ideal) x0 x1 x2, val_main_v42 (F := Ideal) x0 x1 x2, val_main_v43 (F := Ideal) x0 x1 x2,
      val_main_v44 (F := Ideal) x0 x1 x2, val_main_v45 (F := Ideal) x0 x1 x2]
    (fun d n c e y z => match d with
      | 0 => slice_cols (W := 10) 0 (val_main_v40 (F := Ideal) x0 x1 x2)
        slices_S4096x6x5x10x14_S4096x6x5x10x10_0_0_0_0_0 n c e y z (by omega)
      | 1 => slice_cols (W := 10) 1 (val_main_v40 (F := Ideal) x0 x1 x2)
        slices_S4096x6x5x10x14_S4096x6x5x10x10_0_0_0_0_1 n c e y z (by omega)
      | 2 => slice_cols (W := 10) 2 (val_main_v40 (F := Ideal) x0 x1 x2)
        slices_S4096x6x5x10x14_S4096x6x5x10x10_0_0_0_0_2 n c e y z (by omega)
      | 3 => slice_cols (W := 10) 3 (val_main_v40 (F := Ideal) x0 x1 x2)
        slices_S4096x6x5x10x14_S4096x6x5x10x10_0_0_0_0_3 n c e y z (by omega)
      | 4 => slice_cols (W := 10) 4 (val_main_v40 (F := Ideal) x0 x1 x2)
        slices_S4096x6x5x10x14_S4096x6x5x10x10_0_0_0_0_4 n c e y z (by omega))
    bcast_S4096x6x5x10x10_S4096x6x5x1x10x10_0_1_2_4_5 _ n c di dj y z).trans (ref_rows2 x0 x1 x2 n c di y _)

/-- Second layer: the correlation, biased and rectified. -/
theorem ref_relu2 (n : Fin 4096) (o : Fin 16) (y z : Fin 10) :
    val_main_v57 (F := Ideal) x0 x1 x2 x3 x4 (ix4 n o y z)
      = max (conv (H := 10) (W := 10) (fun c y z => (val_main_v29 (F := Ideal) x0 x1 x2) (ix4 n c y z)) (fun c di dj => x3 (ix4 o c di dj)) y z + x4 (ix1 o)) 0 := by
  have e1 : val_main_v53 (F := Ideal) x0 x1 x2 x3 (ix4 n o y z)
      = conv (H := 10) (W := 10) (fun c y z => (val_main_v29 (F := Ideal) x0 x1 x2) (ix4 n c y z)) (fun c di dj => x3 (ix4 o c di dj)) y z := by
    rw [val_main_v53_apply, show idx_main_v53 (ix4 n o y z) = ix4 o n y z from funext fun a => match a with
      | ⟨0, _⟩ => rfl
      | ⟨1, _⟩ => rfl
      | ⟨2, _⟩ => rfl
      | ⟨3, _⟩ => rfl]
    refine (convDot_apply (N := 4096) (C := 6) (H := 10) (W := 10) (O := 16)
      dot_S16x6x5x5_S4096x6x5x5x10x10_S16x4096x10x10_123_123_0_045_n_n.wf x3 (val_main_v51 (F := Ideal) x0 x1 x2) o n y z).trans ?_
    exact Finset.sum_congr rfl fun c _ => Finset.sum_congr rfl fun di _ => Finset.sum_congr rfl fun dj _ =>
      congrArg (x3 (ix4 o c di dj) * ·) (ref_windows2 x0 x1 x2 n c di dj y z)
  have e2 : val_main_v55 (F := Ideal) x4 (ix4 n o y z) = x4 (ix1 o) := by
    rw [val_main_v55_apply, val_main_v54_apply]
    exact congrArg x4 (funext fun a => match a with | ⟨0, _⟩ => rfl)
  rw [val_main_v57_apply, val_main_v56_apply, e1, e2, val_main_call1_v0_apply, val_main_call1_cst_apply, ofBits_zero]
  rfl

/-- Second layer: the layer. -/
theorem ref_layer2 (n : Fin 4096) (o : Fin 16) (i j : Fin 5) :
    val_main_v59 (F := Ideal) x0 x1 x2 x3 x4 (ix4 n o i j)
      = layer (h := 5) (fun c y z => (val_main_v29 (F := Ideal) x0 x1 x2) (ix4 n c y z)) (fun c di dj => x3 (ix4 o c di dj)) (x4 (ix1 o)) i j := by
  refine (pool_apply (N := 4096) (C := 16) (h := 5) (val_main_v57 (F := Ideal) x0 x1 x2 x3 x4) (val_main_v58 (F := Ideal))
    reduceWindows_S4096x16x10x10_S4096x16x5x5_w1s1p0_0_w1s1p0_0_w2s2p0_0_w2s2p0_0 h_S_ n o i j).trans ?_
  have e0 : val_main_v58 (F := Ideal) (Shape.Idx.first h_S_) = ⊥ := by
    rw [val_main_v58_apply, val_main_cst_0_apply, ofBits_bot]
  simp only [e0, ref_relu2]
  exact pool_relu _ _ _ _ _

end Cert.Val

end
-- ==== Proof.TopTwo.lean ====
/- The two greatest of two scores: a permutation of them, so weights that add to one, gathered back to their places, are
   the scores. -/
module

public import proofs.«01_k».proof.Proof.Spec
public import Idealize.ShloMosaic.Lib.ValueIdx
public import Idealize.ShloMosaic.Lib.SortFacts
public import Idealize.ShloMosaic.Lib.Pipeline.Value

@[expose] public section

noncomputable section

namespace Cert.Val

open Idealize.ShloMosaic Idealize.ShloMosaic.ValueIdx

/-- The two greatest of each row, and where they stood, are the row in some order. -/
theorem topTwo {N : ℕ} (gt : EReal → EReal → BitVec 1) (x : (⟨2, ![N, 2]⟩ : Shape).Idx → EReal)
    (h : (⟨2, ![N, 2]⟩ : Shape).Slices (fun _ => 0) ⟨2, ![N, 2]⟩) (n : Fin N) :
    ∃ σ : Fin 2 → Fin 2, Function.Bijective σ ∧ (∀ k, (Host.topK ⟨2, ![N, 2]⟩ 1 gt x h).1 (ix2 n k) = x (ix2 n (σ k)))
      ∧ ∀ k, (Host.topK ⟨2, ![N, 2]⟩ 1 gt x h).2 (ix2 n k) = BitVec.ofNat 32 (σ k).val := by
  have ha : ∀ k l : Fin 2, Shape.Idx.along (s := ⟨2, ![N, 2]⟩) (ix2 n k) ⟨1, Nat.lt_succ_self 1⟩ l = ix2 n l := fun k l =>
    funext fun a => match a with
      | ⟨0, _⟩ => rfl
      | ⟨1, _⟩ => rfl
  have hb : ∀ k, (fun a b : Fin 2 => gt (x (Shape.Idx.along (s := ⟨2, ![N, 2]⟩) (ix2 n k) ⟨1, Nat.lt_succ_self 1⟩ a))
      (x (Shape.Idx.along (s := ⟨2, ![N, 2]⟩) (ix2 n k) ⟨1, Nat.lt_succ_self 1⟩ b)) == 1#1)
      = fun a b => gt (x (ix2 n a)) (x (ix2 n b)) == 1#1 := fun k => funext fun a => funext fun b => by rw [ha, ha]
  refine ⟨sortedFrom (fun k k' => gt (x (ix2 n k)) (x (ix2 n k')) == 1#1),
    ⟨sortedFrom_injective _, sortedFrom_surjective _⟩, fun k => ?_, fun k => ?_⟩
  · unfold Host.topK
    simp only
    rw [extractStridedSlice_apply _ _ h (ix2 n k) (ix2 n k) (fun a => (Nat.zero_add _).symm)]
    unfold Host.sort2
    rw [dif_pos (Nat.lt_succ_self 1)]
    show x (Shape.Idx.along (s := ⟨2, ![N, 2]⟩) (ix2 n k) ⟨1, Nat.lt_succ_self 1⟩ (sortedFrom (n := 2) _ k)) = _
    rw [ha]
    exact congrArg (fun r => x (ix2 n (sortedFrom (n := 2) r k))) (hb k)
  · unfold Host.topK
    simp only
    rw [extractStridedSlice_apply _ _ h (ix2 n k) (ix2 n k) (fun a => (Nat.zero_add _).symm)]
    unfold Host.sort2
    rw [dif_pos (Nat.lt_succ_self 1)]
    show (if hd : 1 < 2 then iotaInDim ⟨2, ![N, 2]⟩ 32 ⟨1, hd⟩
      (Shape.Idx.along (s := ⟨2, ![N, 2]⟩) (ix2 n k) ⟨1, Nat.lt_succ_self 1⟩ (sortedFrom (n := 2) _ k)) else 0#32) = _
    rw [dif_pos (Nat.lt_succ_self 1)]
    rw [ha]
    exact congrArg (fun r => BitVec.ofNat 32 (sortedFrom (n := 2) r k).val) (hb k)

/-- Weights `v k / (v 0 + v 1)` of the scores in some order, gathered back by equality of places, are the scores, when
    the scores are reals that add to one. -/
theorem gather {g : Fin 2 → EReal} {s : Fin 2 → ℝ} (hg : ∀ e, g e = (s e : EReal)) (h1 : s 0 + s 1 = 1)
    {σ : Fin 2 → Fin 2} (hσ : Function.Bijective σ) (e : Fin 2) :
    ∑ k, Ideal.div (g (σ k)) (0 + ∑ k, g (σ k)) * (if σ k = e then 1 else 0) = g e := by
  have ht : (0 : EReal) + ∑ k, g (σ k) = ((1 : ℝ) : EReal) := by
    rw [zero_add, Function.Bijective.sum_comp hσ g, Fin.sum_univ_two, hg, hg, ← EReal.coe_add, h1]
  rw [ht, Function.Bijective.sum_comp hσ (fun k => Ideal.div (g k) ((1 : ℝ) : EReal) * (if k = e then 1 else 0)),
    Finset.sum_eq_single e (fun b _ hb => by rw [if_neg hb, mul_zero]) (fun h => absurd (Finset.mem_univ e) h),
    if_pos rfl, mul_one, hg, div_one]

end Cert.Val

end
-- ==== Proof.RefValue.lean ====
/- The reference's result read at an index: the network of Net.lean, when the arguments the gate reads are finite. -/
module

public import proofs.«01_k».proof.Proof.RefLayers
public import proofs.«01_k».proof.Proof.Net
public import proofs.«01_k».proof.Proof.TopTwo

@[expose] public section

noncomputable section

namespace Cert.Val

open Cert.ReferenceIdeal Cert.ReferenceIdeal.Gen Cert.ReferenceIdeal.Read
open Idealize.ShloMosaic Idealize.ShloMosaic.ValueIdx

variable (A : Args) (n : Fin 4096)

/-- The convolution layers. -/
theorem ref_img2 (o : Fin 16) (i j : Fin 5) :
    val_main_v59 (F := Ideal) A.x A.c1w A.c1b A.c2w A.c2b (ix4 n o i j) = A.img2 n o i j := by
  rw [ref_layer2]
  unfold Args.img2
  congr 1
  funext o i j
  exact ref_layer1 _ _ _ n o i j

/-- The first dense layer. -/
theorem ref_hid1 (q : Fin 120) : val_main_v66 (F := Ideal) A.x A.c1w A.c1b A.c2w A.c2b A.f1w A.f1b (ix2 n q) = A.hid1 n q := by
  rw [val_main_v66_apply, val_main_v65_apply, val_main_v62_apply, val_main_v64_apply, val_main_v63_apply,
    val_main_call2_v0_apply, val_main_call2_cst_apply, ofBits_zero,
    show idx_main_v63 (idx_main_v64 (ix2 n q)) = ix1 q from eq_ix1 _]
  show max ((∑ k : Fin 400, _) + _) 0 = _
  unfold Args.hid1 dense3
  congr 2
  rw [sum_blk (a := 16) (b := 25) rfl]
  refine Finset.sum_congr rfl fun o _ => ?_
  rw [sum_blk (a := 5) (b := 5) rfl]
  refine Finset.sum_congr rfl fun i _ => Finset.sum_congr rfl fun j _ => ?_
  have hn := n.isLt
  have ho := o.isLt
  have hi := i.isLt
  have hj := j.isLt
  rw [val_main_v60_apply, val_main_v61_apply, mul_comm]
  refine congrArg₂ (· * ·) (congrArg A.f1w (funext fun a => Fin.ext ?_))
    ((congrArg (val_main_v59 (F := Ideal) A.x A.c1w A.c1b A.c2w A.c2b) (funext fun a => Fin.ext ?_)).trans (ref_img2 A n o i j))
  · match a with
    | ⟨0, _⟩ => rfl
    | ⟨1, _⟩ => show o.val * 25 + (i.val * 5 + j.val) = o.val * 25 + i.val * 5 + j.val; omega
  · match a with
    | ⟨0, _⟩ => show (n.val * 400 + (o.val * 25 + (i.val * 5 + j.val))) / 400 = n.val; omega
    | ⟨1, _⟩ => show (n.val * 400 + (o.val * 25 + (i.val * 5 + j.val))) / 25 % 16 = o.val; omega
    | ⟨2, _⟩ => show (n.val * 400 + (o.val * 25 + (i.val * 5 + j.val))) / 5 % 5 = i.val; omega
    | ⟨3, _⟩ => show (n.val * 400 + (o.val * 25 + (i.val * 5 + j.val))) % 5 = j.val; omega

/-- The second dense layer. -/
theorem ref_hid2 (d : Fin 84) : val_main_v72 (F := Ideal) A.x A.c1w A.c1b A.c2w A.c2b A.f1w A.f1b A.f2w A.f2b (ix2 n d) = A.hid2 n d := by
  rw [val_main_v72_apply, val_main_v71_apply, val_main_v68_apply, val_main_v70_apply, val_main_v69_apply,
    val_main_call3_v0_apply, val_main_call3_cst_apply, ofBits_zero,
    show idx_main_v69 (idx_main_v70 (ix2 n d)) = ix1 d from eq_ix1 _]
  show max ((∑ k : Fin 120, _) + _) 0 = _
  unfold Args.hid2 dense
  congr 2
  refine Finset.sum_congr rfl fun k _ => ?_
  rw [val_main_v67_apply, mul_comm]
  exact congrArg₂ (· * ·) (congrArg A.f2w (eq_ix2 _))
    ((congrArg (val_main_v66 (F := Ideal) A.x A.c1w A.c1b A.c2w A.c2b A.f1w A.f1b) (eq_ix2 _)).trans (ref_hid1 A n k))

/-- The gate's logits. -/
theorem ref_logit (e : Fin 2) : val_main_v73 (F := Ideal) A.x A.c1w A.c1b A.c2w A.c2b A.f1w A.f1b A.f2w A.f2b A.gw (ix2 n e) = A.logit n e := by
  rw [val_main_v73_apply]
  exact Finset.sum_congr rfl fun k _ => congrArg₂ (· * ·)
    ((congrArg (val_main_v72 (F := Ideal) A.x A.c1w A.c1b A.c2w A.c2b A.f1w A.f1b A.f2w A.f2b) (eq_ix2 _)).trans (ref_hid2 A n k)) (congrArg A.gw (eq_ix2 _))

/-- The greater logit. -/
theorem ref_max (e : Fin 2) :
    val_main_v78 (F := Ideal) A.x A.c1w A.c1b A.c2w A.c2b A.f1w A.f1b A.f2w A.f2b A.gw (ix2 n e) = max (A.logit n 0) (A.logit n 1) := by
  rw [val_main_v78_apply, val_main_v77_apply, val_main_v76_apply, val_main_v75_apply, val_main_cst_2_apply, ofBits_bot,
    show idx_main_v77 (idx_main_v78 (ix2 n e)) = ix1 n from eq_ix1 _]
  unfold val_main_v74
  rw [Host.reduce_eq_fold_single (FloatOps.maximumf (F := Ideal) (φ := .f32)) _ _ reducesTo_S4096x2_S4096_d1 (by decide)]
  show max ⊥ ((Finset.univ : Finset (Fin 2)).fold max (FloatOps.ofBits (F := Ideal) .f32 0xFF800000#32) _) = _
  rw [ofBits_bot]
  have hf : ∀ f : Fin 2 → EReal, (Finset.univ : Finset (Fin 2)).fold max ⊥ f = max (f 0) (f 1) := fun f => by
    rw [show (Finset.univ : Finset (Fin 2)) = {0, 1} from by decide, Finset.fold_insert (by decide),
      Finset.fold_singleton, max_bot_right]
  refine (congrArg (max ⊥) (hf _)).trans ?_
  rw [max_bot_left]
  exact congrArg₂ max ((congrArg (val_main_v73 (F := Ideal) A.x A.c1w A.c1b A.c2w A.c2b A.f1w A.f1b A.f2w A.f2b A.gw)
    (eq_ix2 _)).trans (ref_logit A n 0)) ((congrArg (val_main_v73 (F := Ideal) A.x A.c1w A.c1b A.c2w A.c2b A.f1w A.f1b
    A.f2w A.f2b A.gw) (eq_ix2 _)).trans (ref_logit A n 1))

/-- The scores. -/
theorem ref_score (e : Fin 2) : val_main_v84 (F := Ideal) A.x A.c1w A.c1b A.c2w A.c2b A.f1w A.f1b A.f2w A.f2b A.gw (ix2 n e) = gate (A.logit n) e := by
  have h80 : ∀ e, val_main_v80 (F := Ideal) A.x A.c1w A.c1b A.c2w A.c2b A.f1w A.f1b A.f2w A.f2b A.gw (ix2 n e) = expo (A.logit n) e := fun e => by
    rw [val_main_v80_apply, val_main_v79_apply, ref_logit, ref_max]
    rfl
  rw [val_main_v84_apply, h80, val_main_v83_apply, val_main_v82_apply, val_main_v81_apply, val_main_cst_3_apply,
    ofBits_zero, Fin.sum_univ_two,
    show idx_main_v81 (idx_main_v82 (idx_main_v83 (ix2 n e))) 0 = ix2 n 0 from eq_ix2 _,
    show idx_main_v81 (idx_main_v82 (idx_main_v83 (ix2 n e))) 1 = ix2 n 1 from eq_ix2 _, h80, h80, zero_add]
  rfl

/-- The weights gathered back to the experts are the scores. -/
theorem ref_weight (hA : A.Finite) (e : Fin 2) : val_main_v90 (F := Ideal) A.x A.c1w A.c1b A.c2w A.c2b A.f1w A.f1b A.f2w A.f2b A.gw (ix2 n e) = gate (A.logit n) e := by
  obtain ⟨σ, hσ, hv, hi⟩ := topTwo (N := 4096) (FloatOps.cmpfTotal (F := Ideal) (φ := .f32) .gt)
    (val_main_v84 (F := Ideal) A.x A.c1w A.c1b A.c2w A.c2b A.f1w A.f1b A.f2w A.f2b A.gw) sliceFits_S4096x2_S4096x2 n
  obtain ⟨s, -, h1, hg⟩ := gate_real (hA.logit n)
  have hval : ∀ k, val_main_values (F := Ideal) A.x A.c1w A.c1b A.c2w A.c2b A.f1w A.f1b A.f2w A.f2b A.gw (ix2 n k) = gate (A.logit n) (σ k) :=
    fun k => (hv k).trans (ref_score A n (σ k))
  have hidx : ∀ k, val_main_indices (F := Ideal) A.x A.c1w A.c1b A.c2w A.c2b A.f1w A.f1b A.f2w A.f2b A.gw (ix2 n k) = BitVec.ofNat 32 (σ k).val := hi
  rw [val_main_v90_apply, ← gather hg h1 hσ e]
  refine Finset.sum_congr rfl fun k _ => congrArg₂ (· * ·) ?_ ?_
  · rw [show lidx_main_v90 (ix2 n e) k = ix2 n k from eq_ix2 _, val_main_v88_apply, hval, val_main_v87_apply,
      val_main_v86_apply, val_main_v85_apply, val_main_cst_4_apply, ofBits_zero]
    refine congrArg (fun t => Ideal.div _ (0 + t)) (Finset.sum_congr rfl fun k' _ => ?_)
    exact (congrArg (val_main_values (F := Ideal) A.x A.c1w A.c1b A.c2w A.c2b A.f1w A.f1b A.f2w A.f2b A.gw) (eq_ix2 _)).trans (hval k')
  · rw [val_main_v89_apply, val_main_call4_v4_apply, val_main_call4_v2_apply, val_main_call4_v0_apply,
      val_main_call4_v3_apply, val_main_call4_v1_apply,
      show idx_main_call4_v0 (idx_main_call4_v2 (ridx_main_v90 (ix2 n e) k)) = ix2 n k from eq_ix2 _, hidx]
    show (((IntOp.cmpi .eq (BitVec.ofNat 32 (σ k).val) (BitVec.ofNat 32 e.val)).toNat : ℝ) : EReal) = _
    have hd : ∀ a b : Fin 2, (IntOp.cmpi .eq (BitVec.ofNat 32 a.val) (BitVec.ofNat 32 b.val)).toNat
        = if a = b then 1 else 0 := by decide
    rw [hd]
    split <;> simp

/-- The experts. -/
theorem ref_exp (e : Fin 2) (d : Fin 84) :
    val_main_v100 (F := Ideal) A.x A.c1w A.c1b A.c2w A.c2b A.f1w A.f1b A.f2w A.f2b A.w1 A.b1 A.w2 A.b2 (ix3 n e d) = A.exp n e d := by
  have h95 : ∀ k : Fin 2048, val_main_v95 (F := Ideal) A.x A.c1w A.c1b A.c2w A.c2b A.f1w A.f1b A.f2w A.f2b A.w1 A.b1 (ix3 n e k)
      = dense (fun d => A.w1 (ix3 e d k)) (A.hid2 n) (A.b1 (ix2 e k)) := fun k => by
    rw [val_main_v95_apply, val_main_v94_apply, val_main_v91_apply, val_main_v93_apply, val_main_v92_apply,
      val_main_call5_v0_apply, val_main_call5_cst_apply, ofBits_zero,
      show idx_main_v92 (idx_main_v93 (ix3 n e k)) = ix2 e k from eq_ix2 _]
    show max ((∑ k : Fin 84, _) + _) 0 = _
    unfold dense
    congr 2
    refine Finset.sum_congr rfl fun d _ => ?_
    rw [mul_comm]
    exact congrArg₂ (· * ·) (congrArg A.w1 (eq_ix3 _)) ((congrArg (val_main_v72 (F := Ideal) A.x A.c1w A.c1b A.c2w A.c2b A.f1w A.f1b A.f2w A.f2b) (eq_ix2 _)).trans (ref_hid2 A n d))
  rw [val_main_v100_apply, val_main_v97_apply, val_main_v96_apply, val_main_v99_apply, val_main_v98_apply,
    show idx_main_v98 (idx_main_v99 (ix3 n e d)) = ix2 e d from eq_ix2 _]
  show (∑ k : Fin 2048, _) + _ = _
  unfold Args.exp expert
  congr 1
  refine Finset.sum_congr rfl fun k _ => ?_
  rw [mul_comm]
  exact congrArg₂ (· * ·) ((congrArg (val_main_v95 (F := Ideal) A.x A.c1w A.c1b A.c2w A.c2b A.f1w A.f1b A.f2w A.f2b A.w1 A.b1) (eq_ix3 _)).trans (h95 k)) (congrArg A.w2 (eq_ix3 _))

/-- The result. -/
theorem ref_out (hA : A.Finite) (j : Fin 10) :
    val_main_v106 (F := Ideal) A.x A.c1w A.c1b A.c2w A.c2b A.f1w A.f1b A.f2w A.f2b A.gw A.w1 A.b1 A.w2 A.b2 A.f3w A.f3b (ix2 n j) = A.out n j := by
  have h101 : ∀ d, val_main_v101 (F := Ideal) A.x A.c1w A.c1b A.c2w A.c2b A.f1w A.f1b A.f2w A.f2b A.gw A.w1 A.b1 A.w2 A.b2 (ix2 n d) = A.mix n d := fun d => by
    rw [val_main_v101_apply]
    exact Finset.sum_congr rfl fun e _ => congrArg₂ (· * ·)
      ((congrArg (val_main_v90 (F := Ideal) A.x A.c1w A.c1b A.c2w A.c2b A.f1w A.f1b A.f2w A.f2b A.gw) (eq_ix2 _)).trans (ref_weight A n hA e))
      ((congrArg (val_main_v100 (F := Ideal) A.x A.c1w A.c1b A.c2w A.c2b A.f1w A.f1b A.f2w A.f2b A.w1 A.b1 A.w2 A.b2) (eq_ix3 _)).trans (ref_exp A n e d))
  rw [val_main_v106_apply, val_main_v103_apply, val_main_v105_apply, val_main_v104_apply,
    show idx_main_v104 (idx_main_v105 (ix2 n j)) = ix1 j from eq_ix1 _]
  refine congrArg (· + A.f3b (ix1 j)) (Finset.sum_congr rfl fun d _ => ?_)
  rw [val_main_v102_apply]
  exact congrArg₂ (· * ·) ((congrArg (val_main_v101 (F := Ideal) A.x A.c1w A.c1b A.c2w A.c2b A.f1w A.f1b A.f2w A.f2b A.gw A.w1 A.b1 A.w2 A.b2) (eq_ix2 _)).trans (h101 d))
    (congrArg A.f3w (eq_ix2 _))

end Cert.Val

end
-- ==== Proof.Claims.lean ====
/- The claims about the runs: the frames, and the two programs' equal results. -/
module

public import proofs.«01_k».proof.Defs
public import proofs.«01_k».proof.Proof.KernelRun
public import proofs.«01_k».proof.Proof.RefValue
public import proofs.«01_k».proof.Proof.Gen.Kernel.Frame
public import proofs.«01_k».proof.Proof.Gen.ReferenceIdeal.Run
public import proofs.«01_k».proof.Proof.Gen.ReferenceIdeal.Read
public import proofs.«01_k».proof.Proof.Gen.Pre_gate_inputs_finite
public import Idealize.ShloMosaic.Adequacy
public import Idealize.ShloMosaic.Init

@[expose] public section

noncomputable section

namespace Cert.Val

open Idealize.ShloMosaic Idealize.SL.Sem

/-! ### The precondition -/

/-- An array whose magnitudes all compare below infinity holds finite values. -/
theorem finite_of {s : Shape} (h : (⟨0, ![]⟩ : Shape).BroadcastsInDim s ![]) (X : FVec Ideal s .f32)
    (H : cmpf .olt (Host.absf X) (broadcastInDim s ![] h (constant ⟨0, ![]⟩ .f32 0x7F800000#32)) = fun _ => 1#1) : ∀ i, Fin' (X i) := fun i => by
  have e : BitVec.ofBool (decide (max (X i) (-X i) < Ideal.ofBits .f32 0x7F800000#32)) = 1#1 := congrFun H i
  have top : Ideal.ofBits .f32 0x7F800000#32 = (⊤ : EReal) := by simp [Ideal.ofBits, Ideal.ieee]
  rw [top] at e
  by_cases hlt : max (X i) (-X i) < ⊤
  · exact Fin'.of_abs_lt hlt
  · rw [decide_eq_false hlt] at e
    exact absurd e (by decide)

/-- Under the precondition every core's images, layers and gate are finite. -/
theorem args_finite (m : (ℓ : Loc Cert.KernelIdeal.nD Cert.KernelIdeal.τ Cert.KernelIdeal.sig) → Buf (Elt Ideal) ℓ)
    (H : Cert.Pre_KernelIdeal_gate_inputs_finite m) (c : Dev Cert.KernelIdeal.nD) : (argsOf m c).Finite := by
  obtain ⟨h0, h1, h2, h3, h4, h5, h6, h7, h8, h9⟩ := H c
  exact ⟨finite_of _ _ h0, finite_of _ _ h1, finite_of _ _ h2, finite_of _ _ h3, finite_of _ _ h4, finite_of _ _ h5, finite_of _ _ h6,
    finite_of _ _ h7, finite_of _ _ h8, finite_of _ _ h9⟩

/-! ### The reference -/

/-- The reference's frame: its run keeps the arguments, and it has no semaphore. -/
theorem frame_reference : Cert.quiescent_ReferenceIdeal := fun m g _ =>
  (θ_run _ _ _).mono (fun r h => ⟨fun c => (h c).2, sem_eq_zero_of_no_sems (by decide) r.2⟩) (Cert.ReferenceIdeal.Value.run m g)

/-- The reference's arguments, as core `c` holds them at launch. -/
def refArgs (m : (ℓ : Loc Cert.ReferenceIdeal.nD Cert.ReferenceIdeal.τ Cert.ReferenceIdeal.sig) → Buf (Elt Ideal) ℓ) (c : Dev Cert.ReferenceIdeal.nD) : Args where
  x := m ((c.tc : Thread Cert.ReferenceIdeal.nD Cert.ReferenceIdeal.τ).loc Cert.ReferenceIdeal.main_arg0)
  c1w := m ((c.tc : Thread Cert.ReferenceIdeal.nD Cert.ReferenceIdeal.τ).loc Cert.ReferenceIdeal.main_arg1)
  c1b := m ((c.tc : Thread Cert.ReferenceIdeal.nD Cert.ReferenceIdeal.τ).loc Cert.ReferenceIdeal.main_arg2)
  c2w := m ((c.tc : Thread Cert.ReferenceIdeal.nD Cert.ReferenceIdeal.τ).loc Cert.ReferenceIdeal.main_arg3)
  c2b := m ((c.tc : Thread Cert.ReferenceIdeal.nD Cert.ReferenceIdeal.τ).loc Cert.ReferenceIdeal.main_arg4)
  f1w := m ((c.tc : Thread Cert.ReferenceIdeal.nD Cert.ReferenceIdeal.τ).loc Cert.ReferenceIdeal.main_arg5)
  f1b := m ((c.tc : Thread Cert.ReferenceIdeal.nD Cert.ReferenceIdeal.τ).loc Cert.ReferenceIdeal.main_arg6)
  f2w := m ((c.tc : Thread Cert.ReferenceIdeal.nD Cert.ReferenceIdeal.τ).loc Cert.ReferenceIdeal.main_arg7)
  f2b := m ((c.tc : Thread Cert.ReferenceIdeal.nD Cert.ReferenceIdeal.τ).loc Cert.ReferenceIdeal.main_arg8)
  gw := m ((c.tc : Thread Cert.ReferenceIdeal.nD Cert.ReferenceIdeal.τ).loc Cert.ReferenceIdeal.main_arg9)
  w1 := m ((c.tc : Thread Cert.ReferenceIdeal.nD Cert.ReferenceIdeal.τ).loc Cert.ReferenceIdeal.main_arg10)
  b1 := m ((c.tc : Thread Cert.ReferenceIdeal.nD Cert.ReferenceIdeal.τ).loc Cert.ReferenceIdeal.main_arg11)
  w2 := m ((c.tc : Thread Cert.ReferenceIdeal.nD Cert.ReferenceIdeal.τ).loc Cert.ReferenceIdeal.main_arg12)
  b2 := m ((c.tc : Thread Cert.ReferenceIdeal.nD Cert.ReferenceIdeal.τ).loc Cert.ReferenceIdeal.main_arg13)
  f3w := m ((c.tc : Thread Cert.ReferenceIdeal.nD Cert.ReferenceIdeal.τ).loc Cert.ReferenceIdeal.main_arg14)
  f3b := m ((c.tc : Thread Cert.ReferenceIdeal.nD Cert.ReferenceIdeal.τ).loc Cert.ReferenceIdeal.main_arg15)

/-- The reference's value at arguments that are the kernel's. -/
theorem reference_value (A : Args) (hA : A.Finite) :
    Cert.ReferenceIdeal.Read.val_main_v106 (F := Ideal) A.x A.c1w A.c1b A.c2w A.c2b A.f1w A.f1b A.f2w A.f2b A.gw A.w1 A.b1 A.w2 A.b2 A.f3w A.f3b
      = fun i => A.out (i 0) (i 1) := by
  funext i
  obtain ⟨n, j, rfl⟩ : ∃ (n : Fin 4096) (j : Fin 10), i = ValueIdx.ix2 n j := ⟨i 0, i 1, ValueIdx.eq_ix2 i⟩
  exact ref_out A n hA j

/-! ### The two programs -/

/-- On finite images, layers and gate, the kernel and the reference end with the same result. -/
theorem same_result : Cert.algebraic_KernelIdeal_ReferenceIdeal_pre_gate_inputs_finite := fun m g m' g' hpre hagree => by
  have hA := args_finite m hpre
  refine ⟨result m, θ_run_and (kernel_run m g hA) (Cert.KernelIdeal.Gen.unchanged m g) |> (θ_run _ _ _).mono fun r h c => ⟨h.1 c, h.2 c⟩,
    (θ_run _ _ _).mono (fun r h c => ⟨(h c).1.trans ?_, (h c).2⟩) (Cert.ReferenceIdeal.Value.run m' g')⟩
  have e : refArgs m' c = argsOf m c := by
    obtain ⟨e0, e1, e2, e3, e4, e5, e6, e7, e8, e9, e10, e11, e12, e13, e14, e15⟩ := hagree c
    unfold refArgs argsOf
    rw [e0, e1, e2, e3, e4, e5, e6, e7, e8, e9, e10, e11, e12, e13, e14, e15]
  refine (Cert.ReferenceIdeal.Read.val_main_v106_eq (StableHlo.launchContents m' c)).trans ?_
  exact (reference_value (refArgs m' c) (e ▸ hA c)).trans (by rw [e]; rfl)

end Cert.Val
-- ==== Proof.lean ====
/- The proof of the certificate's claim: the kernel's frames, the reference's frame, and the two programs' equal
   results under the precondition that the images, the layers' weights and the gate's are finite. -/
module

public import proofs.«01_k».proof.Defs
public import proofs.«01_k».proof.Proof.Claims

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_gate_inputs_finite.Gen.facts,
  fun m g _ => Cert.Kernel.Gen.frame m g,
  fun m g _ => Cert.KernelIdeal.Gen.frame m g,
  fun m g _ => Cert.KernelIdeal.Gen.frame m g,
  Cert.Val.frame_reference,
  fun m g _ => Cert.Val.frame_reference m g trivial,
  trivial,
  Cert.Val.same_result⟩

end Cert.Proof

end
